-- ==== Defs.lean ====
def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelExpert [hPre_table_in_range : Cert.Pre_table_in_range.Facts] (m : (ℓ : Loc Cert.KernelExpert.nD Cert.KernelExpert.τ Cert.KernelExpert.sig) → Buf (Elt Bits) ℓ) : Prop :=
  ∀ c : Dev Cert.KernelExpert.nD,
    (Cert.Pre_table_in_range.fn (F := Bits) (m ((c.tc : Thread Cert.KernelExpert.nD Cert.KernelExpert.τ).loc Cert.KernelExpert.main_arg0)) (m ((c.tc : Thread Cert.KernelExpert.nD Cert.KernelExpert.τ).loc Cert.KernelExpert.main_arg1)) (m ((c.tc : Thread Cert.KernelExpert.nD Cert.KernelExpert.τ).loc Cert.KernelExpert.main_arg2)) (m ((c.tc : Thread Cert.KernelExpert.nD Cert.KernelExpert.τ).loc Cert.KernelExpert.main_arg3)) (m ((c.tc : Thread Cert.KernelExpert.nD Cert.KernelExpert.τ).loc Cert.KernelExpert.main_arg4)) (m ((c.tc : Thread Cert.KernelExpert.nD Cert.KernelExpert.τ).loc Cert.KernelExpert.main_arg5))) = (fun _ => 1#1)

def Pre_KernelExpertIdeal [hPre_table_in_range : Cert.Pre_table_in_range.Facts] (m : (ℓ : Loc Cert.KernelExpertIdeal.nD Cert.KernelExpertIdeal.τ Cert.KernelExpertIdeal.sig) → Buf (Elt Ideal) ℓ) : Prop :=
  ∀ c : Dev Cert.KernelExpertIdeal.nD,
    (Cert.Pre_table_in_range.fn (F := Ideal) (m ((c.tc : Thread Cert.KernelExpertIdeal.nD Cert.KernelExpertIdeal.τ).loc Cert.KernelExpertIdeal.main_arg0)) (m ((c.tc : Thread Cert.KernelExpertIdeal.nD Cert.KernelExpertIdeal.τ).loc Cert.KernelExpertIdeal.main_arg1)) (m ((c.tc : Thread Cert.KernelExpertIdeal.nD Cert.KernelExpertIdeal.τ).loc Cert.KernelExpertIdeal.main_arg2)) (m ((c.tc : Thread Cert.KernelExpertIdeal.nD Cert.KernelExpertIdeal.τ).loc Cert.KernelExpertIdeal.main_arg3)) (m ((c.tc : Thread Cert.KernelExpertIdeal.nD Cert.KernelExpertIdeal.τ).loc Cert.KernelExpertIdeal.main_arg4)) (m ((c.tc : Thread Cert.KernelExpertIdeal.nD Cert.KernelExpertIdeal.τ).loc Cert.KernelExpertIdeal.main_arg5))) = (fun _ => 1#1)

def Pre_ReferenceExpertIdeal (m : (ℓ : Loc Cert.ReferenceExpertIdeal.nD Cert.ReferenceExpertIdeal.τ Cert.ReferenceExpertIdeal.sig) → Buf (Elt Ideal) ℓ) : Prop :=
  True

def Pre_ReferenceExpertIdeal_table_in_range [hPre_table_in_range : Cert.Pre_table_in_range.Facts] (m : (ℓ : Loc Cert.ReferenceExpertIdeal.nD Cert.ReferenceExpertIdeal.τ Cert.ReferenceExpertIdeal.sig) → Buf (Elt Ideal) ℓ) : Prop :=
  ∀ c : Dev Cert.ReferenceExpertIdeal.nD,
    (Cert.Pre_table_in_range.fn (F := Ideal) (m ((c.tc : Thread Cert.ReferenceExpertIdeal.nD Cert.ReferenceExpertIdeal.τ).loc Cert.ReferenceExpertIdeal.main_arg0)) (m ((c.tc : Thread Cert.ReferenceExpertIdeal.nD Cert.ReferenceExpertIdeal.τ).loc Cert.ReferenceExpertIdeal.main_arg1)) (m ((c.tc : Thread Cert.ReferenceExpertIdeal.nD Cert.ReferenceExpertIdeal.τ).loc Cert.ReferenceExpertIdeal.main_arg2)) (m ((c.tc : Thread Cert.ReferenceExpertIdeal.nD Cert.ReferenceExpertIdeal.τ).loc Cert.ReferenceExpertIdeal.main_arg3)) (m ((c.tc : Thread Cert.ReferenceExpertIdeal.nD Cert.ReferenceExpertIdeal.τ).loc Cert.ReferenceExpertIdeal.main_arg4)) (m ((c.tc : Thread Cert.ReferenceExpertIdeal.nD Cert.ReferenceExpertIdeal.τ).loc Cert.ReferenceExpertIdeal.main_arg5))) = (fun _ => 1#1)

def Pre_KernelInSsd (m : (ℓ : Loc Cert.KernelInSsd.nD Cert.KernelInSsd.τ Cert.KernelInSsd.sig) → Buf (Elt Bits) ℓ) : Prop :=
  True

def Pre_KernelInSsdIdeal (m : (ℓ : Loc Cert.KernelInSsdIdeal.nD Cert.KernelInSsdIdeal.τ Cert.KernelInSsdIdeal.sig) → Buf (Elt Ideal) ℓ) : Prop :=
  True

def Pre_ReferenceInSsdIdeal (m : (ℓ : Loc Cert.ReferenceInSsdIdeal.nD Cert.ReferenceInSsdIdeal.τ Cert.ReferenceInSsdIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_KernelMemIdeal_finite_qk [hPre_finite_qk : Cert.Pre_finite_qk.Facts] (m : (ℓ : Loc Cert.KernelMemIdeal.nD Cert.KernelMemIdeal.τ Cert.KernelMemIdeal.sig) → Buf (Elt Ideal) ℓ) : Prop :=
  ∀ c : Dev Cert.KernelMemIdeal.nD,
    (Cert.Pre_finite_qk.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1))) = (fun _ => 1#1)

def Pre_ReferenceMemIdeal (m : (ℓ : Loc Cert.ReferenceMemIdeal.nD Cert.ReferenceMemIdeal.τ Cert.ReferenceMemIdeal.sig) → Buf (Elt Ideal) ℓ) : Prop :=
  True

def Pre_ReferenceMemIdeal_finite_qk [hPre_finite_qk : Cert.Pre_finite_qk.Facts] (m : (ℓ : Loc Cert.ReferenceMemIdeal.nD Cert.ReferenceMemIdeal.τ Cert.ReferenceMemIdeal.sig) → Buf (Elt Ideal) ℓ) : Prop :=
  ∀ c : Dev Cert.ReferenceMemIdeal.nD,
    (Cert.Pre_finite_qk.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1))) = (fun _ => 1#1)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5))
      ∧ r.2.sem = fun _ => 0)

def quiescent_KernelExpert [hKernelExpert : Cert.KernelExpert.Facts] [hPre_table_in_range : Cert.Pre_table_in_range.Facts] : Prop :=
  ∀ (m : (ℓ : Loc Cert.KernelExpert.nD Cert.KernelExpert.τ Cert.KernelExpert.sig) → Buf (Elt Bits) ℓ) (g : Dev Cert.KernelExpert.nD → PrngReg), Pre_KernelExpert m →
    θ_run (Cert.KernelExpert.defs (F := Bits)) (onTc (τ := Cert.KernelExpert.τ) (Cert.KernelExpert.main (F := Bits))) ⟨m, fun _ => 0, g⟩ (fun r => (∀ c : Dev Cert.KernelExpert.nD,
      r.2.mem ((c.tc : Thread Cert.KernelExpert.nD Cert.KernelExpert.τ).loc Cert.KernelExpert.main_arg0) = m ((c.tc : Thread Cert.KernelExpert.nD Cert.KernelExpert.τ).loc Cert.KernelExpert.main_arg0)
      ∧ r.2.mem ((c.tc : Thread Cert.KernelExpert.nD Cert.KernelExpert.τ).loc Cert.KernelExpert.main_arg1) = m ((c.tc : Thread Cert.KernelExpert.nD Cert.KernelExpert.τ).loc Cert.KernelExpert.main_arg1)
      ∧ r.2.mem ((c.tc : Thread Cert.KernelExpert.nD Cert.KernelExpert.τ).loc Cert.KernelExpert.main_arg2) = m ((c.tc : Thread Cert.KernelExpert.nD Cert.KernelExpert.τ).loc Cert.KernelExpert.main_arg2)
      ∧ r.2.mem ((c.tc : Thread Cert.KernelExpert.nD Cert.KernelExpert.τ).loc Cert.KernelExpert.main_arg3) = m ((c.tc : Thread Cert.KernelExpert.nD Cert.KernelExpert.τ).loc Cert.KernelExpert.main_arg3)
      ∧ r.2.mem ((c.tc : Thread Cert.KernelExpert.nD Cert.KernelExpert.τ).loc Cert.KernelExpert.main_arg4) = m ((c.tc : Thread Cert.KernelExpert.nD Cert.KernelExpert.τ).loc Cert.KernelExpert.main_arg4)
      ∧ r.2.mem ((c.tc : Thread Cert.KernelExpert.nD Cert.KernelExpert.τ).loc Cert.KernelExpert.main_arg5) = m ((c.tc : Thread Cert.KernelExpert.nD Cert.KernelExpert.τ).loc Cert.KernelExpert.main_arg5))
      ∧ r.2.sem = fun _ => 0)

def quiescent_KernelExpertIdeal [hKernelExpertIdeal : Cert.KernelExpertIdeal.Facts] [hPre_table_in_range : Cert.Pre_table_in_range.Facts] : Prop :=
  ∀ (m : (ℓ : Loc Cert.KernelExpertIdeal.nD Cert.KernelExpertIdeal.τ Cert.KernelExpertIdeal.sig) → Buf (Elt Ideal) ℓ) (g : Dev Cert.KernelExpertIdeal.nD → PrngReg), Pre_KernelExpertIdeal m →
    θ_run (Cert.KernelExpertIdeal.defs (F := Ideal)) (onTc (τ := Cert.KernelExpertIdeal.τ) (Cert.KernelExpertIdeal.main (F := Ideal))) ⟨m, fun _ => 0, g⟩ (fun r => (∀ c : Dev Cert.KernelExpertIdeal.nD,
      r.2.mem ((c.tc : Thread Cert.KernelExpertIdeal.nD Cert.KernelExpertIdeal.τ).loc Cert.KernelExpertIdeal.main_arg0) = m ((c.tc : Thread Cert.KernelExpertIdeal.nD Cert.KernelExpertIdeal.τ).loc Cert.KernelExpertIdeal.main_arg0)
      ∧ r.2.mem ((c.tc : Thread Cert.KernelExpertIdeal.nD Cert.KernelExpertIdeal.τ).loc Cert.KernelExpertIdeal.main_arg1) = m ((c.tc : Thread Cert.KernelExpertIdeal.nD Cert.KernelExpertIdeal.τ).loc Cert.KernelExpertIdeal.main_arg1)
      ∧ r.2.mem ((c.tc : Thread Cert.KernelExpertIdeal.nD Cert.KernelExpertIdeal.τ).loc Cert.KernelExpertIdeal.main_arg2) = m ((c.tc : Thread Cert.KernelExpertIdeal.nD Cert.KernelExpertIdeal.τ).loc Cert.KernelExpertIdeal.main_arg2)
      ∧ r.2.mem ((c.tc : Thread Cert.KernelExpertIdeal.nD Cert.KernelExpertIdeal.τ).loc Cert.KernelExpertIdeal.main_arg3) = m ((c.tc : Thread Cert.KernelExpertIdeal.nD Cert.KernelExpertIdeal.τ).loc Cert.KernelExpertIdeal.main_arg3)
      ∧ r.2.mem ((c.tc : Thread Cert.KernelExpertIdeal.nD Cert.KernelExpertIdeal.τ).loc Cert.KernelExpertIdeal.main_arg4) = m ((c.tc : Thread Cert.KernelExpertIdeal.nD Cert.KernelExpertIdeal.τ).loc Cert.KernelExpertIdeal.main_arg4)
      ∧ r.2.mem ((c.tc : Thread Cert.KernelExpertIdeal.nD Cert.KernelExpertIdeal.τ).loc Cert.KernelExpertIdeal.main_arg5) = m ((c.tc : Thread Cert.KernelExpertIdeal.nD Cert.KernelExpertIdeal.τ).loc Cert.KernelExpertIdeal.main_arg5))
      ∧ r.2.sem = fun _ => 0)

def quiescent_ReferenceExpertIdeal [hReferenceExpertIdeal : Cert.ReferenceExpertIdeal.Facts] : Prop :=
  ∀ (m : (ℓ : Loc Cert.ReferenceExpertIdeal.nD Cert.ReferenceExpertIdeal.τ Cert.ReferenceExpertIdeal.sig) → Buf (Elt Ideal) ℓ) (g : Dev Cert.ReferenceExpertIdeal.nD → PrngReg), Pre_ReferenceExpertIdeal m →
    θ_run (Cert.ReferenceExpertIdeal.defs (F := Ideal)) (onTc (τ := Cert.ReferenceExpertIdeal.τ) (Cert.ReferenceExpertIdeal.main (F := Ideal))) ⟨m, fun _ => 0, g⟩ (fun r => (∀ c : Dev Cert.ReferenceExpertIdeal.nD,
      r.2.mem ((c.tc : Thread Cert.ReferenceExpertIdeal.nD Cert.ReferenceExpertIdeal.τ).loc Cert.ReferenceExpertIdeal.main_arg0) = m ((c.tc : Thread Cert.ReferenceExpertIdeal.nD Cert.ReferenceExpertIdeal.τ).loc Cert.ReferenceExpertIdeal.main_arg0)
      ∧ r.2.mem ((c.tc : Thread Cert.ReferenceExpertIdeal.nD Cert.ReferenceExpertIdeal.τ).loc Cert.ReferenceExpertIdeal.main_arg1) = m ((c.tc : Thread Cert.ReferenceExpertIdeal.nD Cert.ReferenceExpertIdeal.τ).loc Cert.ReferenceExpertIdeal.main_arg1)
      ∧ r.2.mem ((c.tc : Thread Cert.ReferenceExpertIdeal.nD Cert.ReferenceExpertIdeal.τ).loc Cert.ReferenceExpertIdeal.main_arg2) = m ((c.tc : Thread Cert.ReferenceExpertIdeal.nD Cert.ReferenceExpertIdeal.τ).loc Cert.ReferenceExpertIdeal.main_arg2)
      ∧ r.2.mem ((c.tc : Thread Cert.ReferenceExpertIdeal.nD Cert.ReferenceExpertIdeal.τ).loc Cert.ReferenceExpertIdeal.main_arg3) = m ((c.tc : Thread Cert.ReferenceExpertIdeal.nD Cert.ReferenceExpertIdeal.τ).loc Cert.ReferenceExpertIdeal.main_arg3)
      ∧ r.2.mem ((c.tc : Thread Cert.ReferenceExpertIdeal.nD Cert.ReferenceExpertIdeal.τ).loc Cert.ReferenceExpertIdeal.main_arg4) = m ((c.tc : Thread Cert.ReferenceExpertIdeal.nD Cert.ReferenceExpertIdeal.τ).loc Cert.ReferenceExpertIdeal.main_arg4)
      ∧ r.2.mem ((c.tc : Thread Cert.ReferenceExpertIdeal.nD Cert.ReferenceExpertIdeal.τ).loc Cert.ReferenceExpertIdeal.main_arg5) = m ((c.tc : Thread Cert.ReferenceExpertIdeal.nD Cert.ReferenceExpertIdeal.τ).loc Cert.ReferenceExpertIdeal.main_arg5))
      ∧ r.2.sem = fun _ => 0)

def quiescent_ReferenceExpertIdeal_pre_table_in_range [hReferenceExpertIdeal : Cert.ReferenceExpertIdeal.Facts] [hPre_table_in_range : Cert.Pre_table_in_range.Facts] : Prop :=
  ∀ (m : (ℓ : Loc Cert.ReferenceExpertIdeal.nD Cert.ReferenceExpertIdeal.τ Cert.ReferenceExpertIdeal.sig) → Buf (Elt Ideal) ℓ) (g : Dev Cert.ReferenceExpertIdeal.nD → PrngReg), Pre_ReferenceExpertIdeal_table_in_range m →
    θ_run (Cert.ReferenceExpertIdeal.defs (F := Ideal)) (onTc (τ := Cert.ReferenceExpertIdeal.τ) (Cert.ReferenceExpertIdeal.main (F := Ideal))) ⟨m, fun _ => 0, g⟩ (fun r => (∀ c : Dev Cert.ReferenceExpertIdeal.nD,
      r.2.mem ((c.tc : Thread Cert.ReferenceExpertIdeal.nD Cert.ReferenceExpertIdeal.τ).loc Cert.ReferenceExpertIdeal.main_arg0) = m ((c.tc : Thread Cert.ReferenceExpertIdeal.nD Cert.ReferenceExpertIdeal.τ).loc Cert.ReferenceExpertIdeal.main_arg0)
      ∧ r.2.mem ((c.tc : Thread Cert.ReferenceExpertIdeal.nD Cert.ReferenceExpertIdeal.τ).loc Cert.ReferenceExpertIdeal.main_arg1) = m ((c.tc : Thread Cert.ReferenceExpertIdeal.nD Cert.ReferenceExpertIdeal.τ).loc Cert.ReferenceExpertIdeal.main_arg1)
      ∧ r.2.mem ((c.tc : Thread Cert.ReferenceExpertIdeal.nD Cert.ReferenceExpertIdeal.τ).loc Cert.ReferenceExpertIdeal.main_arg2) = m ((c.tc : Thread Cert.ReferenceExpertIdeal.nD Cert.ReferenceExpertIdeal.τ).loc Cert.ReferenceExpertIdeal.main_arg2)
      ∧ r.2.mem ((c.tc : Thread Cert.ReferenceExpertIdeal.nD Cert.ReferenceExpertIdeal.τ).loc Cert.ReferenceExpertIdeal.main_arg3) = m ((c.tc : Thread Cert.ReferenceExpertIdeal.nD Cert.ReferenceExpertIdeal.τ).loc Cert.ReferenceExpertIdeal.main_arg3)
      ∧ r.2.mem ((c.tc : Thread Cert.ReferenceExpertIdeal.nD Cert.ReferenceExpertIdeal.τ).loc Cert.ReferenceExpertIdeal.main_arg4) = m ((c.tc : Thread Cert.ReferenceExpertIdeal.nD Cert.ReferenceExpertIdeal.τ).loc Cert.ReferenceExpertIdeal.main_arg4)
      ∧ r.2.mem ((c.tc : Thread Cert.ReferenceExpertIdeal.nD Cert.ReferenceExpertIdeal.τ).loc Cert.ReferenceExpertIdeal.main_arg5) = m ((c.tc : Thread Cert.ReferenceExpertIdeal.nD Cert.ReferenceExpertIdeal.τ).loc Cert.ReferenceExpertIdeal.main_arg5))
      ∧ r.2.sem = fun _ => 0)

def quiescent_KernelInSsd [hKernelInSsd : Cert.KernelInSsd.Facts] : Prop :=
  ∀ (m : (ℓ : Loc Cert.KernelInSsd.nD Cert.KernelInSsd.τ Cert.KernelInSsd.sig) → Buf (Elt Bits) ℓ) (g : Dev Cert.KernelInSsd.nD → PrngReg), Pre_KernelInSsd m →
    θ_run (Cert.KernelInSsd.defs (F := Bits)) (onTc (τ := Cert.KernelInSsd.τ) (Cert.KernelInSsd.main (F := Bits))) ⟨m, fun _ => 0, g⟩ (fun r => (∀ c : Dev Cert.KernelInSsd.nD,
      r.2.mem ((c.tc : Thread Cert.KernelInSsd.nD Cert.KernelInSsd.τ).loc Cert.KernelInSsd.main_arg0) = m ((c.tc : Thread Cert.KernelInSsd.nD Cert.KernelInSsd.τ).loc Cert.KernelInSsd.main_arg0)
      ∧ r.2.mem ((c.tc : Thread Cert.KernelInSsd.nD Cert.KernelInSsd.τ).loc Cert.KernelInSsd.main_arg1) = m ((c.tc : Thread Cert.KernelInSsd.nD Cert.KernelInSsd.τ).loc Cert.KernelInSsd.main_arg1)
      ∧ r.2.mem ((c.tc : Thread Cert.KernelInSsd.nD Cert.KernelInSsd.τ).loc Cert.KernelInSsd.main_arg2) = m ((c.tc : Thread Cert.KernelInSsd.nD Cert.KernelInSsd.τ).loc Cert.KernelInSsd.main_arg2))
      ∧ r.2.sem = fun _ => 0)

def quiescent_KernelInSsdIdeal [hKernelInSsdIdeal : Cert.KernelInSsdIdeal.Facts] : Prop :=
  ∀ (m : (ℓ : Loc Cert.KernelInSsdIdeal.nD Cert.KernelInSsdIdeal.τ Cert.KernelInSsdIdeal.sig) → Buf (Elt Ideal) ℓ) (g : Dev Cert.KernelInSsdIdeal.nD → PrngReg), Pre_KernelInSsdIdeal m →
    θ_run (Cert.KernelInSsdIdeal.defs (F := Ideal)) (onTc (τ := Cert.KernelInSsdIdeal.τ) (Cert.KernelInSsdIdeal.main (F := Ideal))) ⟨m, fun _ => 0, g⟩ (fun r => (∀ c : Dev Cert.KernelInSsdIdeal.nD,
      r.2.mem ((c.tc : Thread Cert.KernelInSsdIdeal.nD Cert.KernelInSsdIdeal.τ).loc Cert.KernelInSsdIdeal.main_arg0) = m ((c.tc : Thread Cert.KernelInSsdIdeal.nD Cert.KernelInSsdIdeal.τ).loc Cert.KernelInSsdIdeal.main_arg0)
      ∧ r.2.mem ((c.tc : Thread Cert.KernelInSsdIdeal.nD Cert.KernelInSsdIdeal.τ).loc Cert.KernelInSsdIdeal.main_arg1) = m ((c.tc : Thread Cert.KernelInSsdIdeal.nD Cert.KernelInSsdIdeal.τ).loc Cert.KernelInSsdIdeal.main_arg1)
      ∧ r.2.mem ((c.tc : Thread Cert.KernelInSsdIdeal.nD Cert.KernelInSsdIdeal.τ).loc Cert.KernelInSsdIdeal.main_arg2) = m ((c.tc : Thread Cert.KernelInSsdIdeal.nD Cert.KernelInSsdIdeal.τ).loc Cert.KernelInSsdIdeal.main_arg2))
      ∧ r.2.sem = fun _ => 0)

def quiescent_ReferenceInSsdIdeal [hReferenceInSsdIdeal : Cert.ReferenceInSsdIdeal.Facts] : Prop :=
  ∀ (m : (ℓ : Loc Cert.ReferenceInSsdIdeal.nD Cert.ReferenceInSsdIdeal.τ Cert.ReferenceInSsdIdeal.sig) → Buf (Elt Ideal) ℓ) (g : Dev Cert.ReferenceInSsdIdeal.nD → PrngReg), Pre_ReferenceInSsdIdeal m →
    θ_run (Cert.ReferenceInSsdIdeal.defs (F := Ideal)) (onTc (τ := Cert.ReferenceInSsdIdeal.τ) (Cert.ReferenceInSsdIdeal.main (F := Ideal))) ⟨m, fun _ => 0, g⟩ (fun r => (∀ c : Dev Cert.ReferenceInSsdIdeal.nD,
      r.2.mem ((c.tc : Thread Cert.ReferenceInSsdIdeal.nD Cert.ReferenceInSsdIdeal.τ).loc Cert.ReferenceInSsdIdeal.main_arg0) = m ((c.tc : Thread Cert.ReferenceInSsdIdeal.nD Cert.ReferenceInSsdIdeal.τ).loc Cert.ReferenceInSsdIdeal.main_arg0)
      ∧ r.2.mem ((c.tc : Thread Cert.ReferenceInSsdIdeal.nD Cert.ReferenceInSsdIdeal.τ).loc Cert.ReferenceInSsdIdeal.main_arg1) = m ((c.tc : Thread Cert.ReferenceInSsdIdeal.nD Cert.ReferenceInSsdIdeal.τ).loc Cert.ReferenceInSsdIdeal.main_arg1)
      ∧ r.2.mem ((c.tc : Thread Cert.ReferenceInSsdIdeal.nD Cert.ReferenceInSsdIdeal.τ).loc Cert.ReferenceInSsdIdeal.main_arg2) = m ((c.tc : Thread Cert.ReferenceInSsdIdeal.nD Cert.ReferenceInSsdIdeal.τ).loc Cert.ReferenceInSsdIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1))
      ∧ r.2.sem = fun _ => 0)

def quiescent_KernelMemIdeal_pre_finite_qk [hKernelMemIdeal : Cert.KernelMemIdeal.Facts] [hPre_finite_qk : Cert.Pre_finite_qk.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal_finite_qk m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1))
      ∧ r.2.sem = fun _ => 0)

def quiescent_ReferenceMemIdeal_pre_finite_qk [hReferenceMemIdeal : Cert.ReferenceMemIdeal.Facts] [hPre_finite_qk : Cert.Pre_finite_qk.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal_finite_qk m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1))
      ∧ r.2.sem = fun _ => 0)

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v9)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v9) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v23) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v17) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)) →
    ∃ (v0 : (c : Dev Cert.KernelCombineIdeal.nD) → Buf (Elt Ideal) ((c.tc : Thread Cert.KernelCombineIdeal.nD Cert.KernelCombineIdeal.τ).loc Cert.KernelCombineIdeal.main_v1)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v1) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v18) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5))

def preserves_KernelExpert_KernelExpertIdeal : Prop :=
  True

def algebraic_KernelExpertIdeal_ReferenceExpertIdeal [hKernelExpertIdeal : Cert.KernelExpertIdeal.Facts] [hReferenceExpertIdeal : Cert.ReferenceExpertIdeal.Facts] [hPre_table_in_range : Cert.Pre_table_in_range.Facts] : Prop :=
  ∀ (m : (ℓ : Loc Cert.KernelExpertIdeal.nD Cert.KernelExpertIdeal.τ Cert.KernelExpertIdeal.sig) → Buf (Elt Ideal) ℓ) (g : Dev Cert.KernelExpertIdeal.nD → PrngReg)
    (m' : (ℓ : Loc Cert.ReferenceExpertIdeal.nD Cert.ReferenceExpertIdeal.τ Cert.ReferenceExpertIdeal.sig) → Buf (Elt Ideal) ℓ) (g' : Dev Cert.ReferenceExpertIdeal.nD → PrngReg), Pre_KernelExpertIdeal m →
    (∀ c : Dev Cert.KernelExpertIdeal.nD,
      m' ((c.tc : Thread Cert.ReferenceExpertIdeal.nD Cert.ReferenceExpertIdeal.τ).loc Cert.ReferenceExpertIdeal.main_arg0) = m ((c.tc : Thread Cert.KernelExpertIdeal.nD Cert.KernelExpertIdeal.τ).loc Cert.KernelExpertIdeal.main_arg0)
      ∧ m' ((c.tc : Thread Cert.ReferenceExpertIdeal.nD Cert.ReferenceExpertIdeal.τ).loc Cert.ReferenceExpertIdeal.main_arg1) = m ((c.tc : Thread Cert.KernelExpertIdeal.nD Cert.KernelExpertIdeal.τ).loc Cert.KernelExpertIdeal.main_arg1)
      ∧ m' ((c.tc : Thread Cert.ReferenceExpertIdeal.nD Cert.ReferenceExpertIdeal.τ).loc Cert.ReferenceExpertIdeal.main_arg2) = m ((c.tc : Thread Cert.KernelExpertIdeal.nD Cert.KernelExpertIdeal.τ).loc Cert.KernelExpertIdeal.main_arg2)
      ∧ m' ((c.tc : Thread Cert.ReferenceExpertIdeal.nD Cert.ReferenceExpertIdeal.τ).loc Cert.ReferenceExpertIdeal.main_arg3) = m ((c.tc : Thread Cert.KernelExpertIdeal.nD Cert.KernelExpertIdeal.τ).loc Cert.KernelExpertIdeal.main_arg3)
      ∧ m' ((c.tc : Thread Cert.ReferenceExpertIdeal.nD Cert.ReferenceExpertIdeal.τ).loc Cert.ReferenceExpertIdeal.main_arg4) = m ((c.tc : Thread Cert.KernelExpertIdeal.nD Cert.KernelExpertIdeal.τ).loc Cert.KernelExpertIdeal.main_arg4)
      ∧ m' ((c.tc : Thread Cert.ReferenceExpertIdeal.nD Cert.ReferenceExpertIdeal.τ).loc Cert.ReferenceExpertIdeal.main_arg5) = m ((c.tc : Thread Cert.KernelExpertIdeal.nD Cert.KernelExpertIdeal.τ).loc Cert.KernelExpertIdeal.main_arg5)) →
    ∃ (v0 : (c : Dev Cert.KernelExpertIdeal.nD) → Buf (Elt Ideal) ((c.tc : Thread Cert.KernelExpertIdeal.nD Cert.KernelExpertIdeal.τ).loc Cert.KernelExpertIdeal.main_v0)),
      θ_run (Cert.KernelExpertIdeal.defs (F := Ideal)) (onTc (τ := Cert.KernelExpertIdeal.τ) (Cert.KernelExpertIdeal.main (F := Ideal))) ⟨m, fun _ => 0, g⟩ (fun r => ∀ c : Dev Cert.KernelExpertIdeal.nD,
          r.2.mem ((c.tc : Thread Cert.KernelExpertIdeal.nD Cert.KernelExpertIdeal.τ).loc Cert.KernelExpertIdeal.main_v0) = v0 c
          ∧ r.2.mem ((c.tc : Thread Cert.KernelExpertIdeal.nD Cert.KernelExpertIdeal.τ).loc Cert.KernelExpertIdeal.main_arg0) = m ((c.tc : Thread Cert.KernelExpertIdeal.nD Cert.KernelExpertIdeal.τ).loc Cert.KernelExpertIdeal.main_arg0)
          ∧ r.2.mem ((c.tc : Thread Cert.KernelExpertIdeal.nD Cert.KernelExpertIdeal.τ).loc Cert.KernelExpertIdeal.main_arg1) = m ((c.tc : Thread Cert.KernelExpertIdeal.nD Cert.KernelExpertIdeal.τ).loc Cert.KernelExpertIdeal.main_arg1)
          ∧ r.2.mem ((c.tc : Thread Cert.KernelExpertIdeal.nD Cert.KernelExpertIdeal.τ).loc Cert.KernelExpertIdeal.main_arg2) = m ((c.tc : Thread Cert.KernelExpertIdeal.nD Cert.KernelExpertIdeal.τ).loc Cert.KernelExpertIdeal.main_arg2)
          ∧ r.2.mem ((c.tc : Thread Cert.KernelExpertIdeal.nD Cert.KernelExpertIdeal.τ).loc Cert.KernelExpertIdeal.main_arg3) = m ((c.tc : Thread Cert.KernelExpertIdeal.nD Cert.KernelExpertIdeal.τ).loc Cert.KernelExpertIdeal.main_arg3)
          ∧ r.2.mem ((c.tc : Thread Cert.KernelExpertIdeal.nD Cert.KernelExpertIdeal.τ).loc Cert.KernelExpertIdeal.main_arg4) = m ((c.tc : Thread Cert.KernelExpertIdeal.nD Cert.KernelExpertIdeal.τ).loc Cert.KernelExpertIdeal.main_arg4)
          ∧ r.2.mem ((c.tc : Thread Cert.KernelExpertIdeal.nD Cert.KernelExpertIdeal.τ).loc Cert.KernelExpertIdeal.main_arg5) = m ((c.tc : Thread Cert.KernelExpertIdeal.nD Cert.KernelExpertIdeal.τ).loc Cert.KernelExpertIdeal.main_arg5))
      ∧ θ_run (Cert.ReferenceExpertIdeal.defs (F := Ideal)) (onTc (τ := Cert.ReferenceExpertIdeal.τ) (Cert.ReferenceExpertIdeal.main (F := Ideal))) ⟨m', fun _ => 0, g'⟩ (fun r => ∀ c : Dev Cert.ReferenceExpertIdeal.nD,
          r.2.mem ((c.tc : Thread Cert.ReferenceExpertIdeal.nD Cert.ReferenceExpertIdeal.τ).loc Cert.ReferenceExpertIdeal.main_v37) = v0 c
          ∧ r.2.mem ((c.tc : Thread Cert.ReferenceExpertIdeal.nD Cert.ReferenceExpertIdeal.τ).loc Cert.ReferenceExpertIdeal.main_arg0) = m' ((c.tc : Thread Cert.ReferenceExpertIdeal.nD Cert.ReferenceExpertIdeal.τ).loc Cert.ReferenceExpertIdeal.main_arg0)
          ∧ r.2.mem ((c.tc : Thread Cert.ReferenceExpertIdeal.nD Cert.ReferenceExpertIdeal.τ).loc Cert.ReferenceExpertIdeal.main_arg1) = m' ((c.tc : Thread Cert.ReferenceExpertIdeal.nD Cert.ReferenceExpertIdeal.τ).loc Cert.ReferenceExpertIdeal.main_arg1)
          ∧ r.2.mem ((c.tc : Thread Cert.ReferenceExpertIdeal.nD Cert.ReferenceExpertIdeal.τ).loc Cert.ReferenceExpertIdeal.main_arg2) = m' ((c.tc : Thread Cert.ReferenceExpertIdeal.nD Cert.ReferenceExpertIdeal.τ).loc Cert.ReferenceExpertIdeal.main_arg2)
          ∧ r.2.mem ((c.tc : Thread Cert.ReferenceExpertIdeal.nD Cert.ReferenceExpertIdeal.τ).loc Cert.ReferenceExpertIdeal.main_arg3) = m' ((c.tc : Thread Cert.ReferenceExpertIdeal.nD Cert.ReferenceExpertIdeal.τ).loc Cert.ReferenceExpertIdeal.main_arg3)
          ∧ r.2.mem ((c.tc : Thread Cert.ReferenceExpertIdeal.nD Cert.ReferenceExpertIdeal.τ).loc Cert.ReferenceExpertIdeal.main_arg4) = m' ((c.tc : Thread Cert.ReferenceExpertIdeal.nD Cert.ReferenceExpertIdeal.τ).loc Cert.ReferenceExpertIdeal.main_arg4)
          ∧ r.2.mem ((c.tc : Thread Cert.ReferenceExpertIdeal.nD Cert.ReferenceExpertIdeal.τ).loc Cert.ReferenceExpertIdeal.main_arg5) = m' ((c.tc : Thread Cert.ReferenceExpertIdeal.nD Cert.ReferenceExpertIdeal.τ).loc Cert.ReferenceExpertIdeal.main_arg5))

def preserves_KernelInSsd_KernelInSsdIdeal : Prop :=
  True

def algebraic_KernelInSsdIdeal_ReferenceInSsdIdeal [hKernelInSsdIdeal : Cert.KernelInSsdIdeal.Facts] [hReferenceInSsdIdeal : Cert.ReferenceInSsdIdeal.Facts] : Prop :=
  ∀ (m : (ℓ : Loc Cert.KernelInSsdIdeal.nD Cert.KernelInSsdIdeal.τ Cert.KernelInSsdIdeal.sig) → Buf (Elt Ideal) ℓ) (g : Dev Cert.KernelInSsdIdeal.nD → PrngReg)
    (m' : (ℓ : Loc Cert.ReferenceInSsdIdeal.nD Cert.ReferenceInSsdIdeal.τ Cert.ReferenceInSsdIdeal.sig) → Buf (Elt Ideal) ℓ) (g' : Dev Cert.ReferenceInSsdIdeal.nD → PrngReg), Pre_KernelInSsdIdeal m →
    (∀ c : Dev Cert.KernelInSsdIdeal.nD,
      m' ((c.tc : Thread Cert.ReferenceInSsdIdeal.nD Cert.ReferenceInSsdIdeal.τ).loc Cert.ReferenceInSsdIdeal.main_arg0) = m ((c.tc : Thread Cert.KernelInSsdIdeal.nD Cert.KernelInSsdIdeal.τ).loc Cert.KernelInSsdIdeal.main_arg0)
      ∧ m' ((c.tc : Thread Cert.ReferenceInSsdIdeal.nD Cert.ReferenceInSsdIdeal.τ).loc Cert.ReferenceInSsdIdeal.main_arg1) = m ((c.tc : Thread Cert.KernelInSsdIdeal.nD Cert.KernelInSsdIdeal.τ).loc Cert.KernelInSsdIdeal.main_arg1)
      ∧ m' ((c.tc : Thread Cert.ReferenceInSsdIdeal.nD Cert.ReferenceInSsdIdeal.τ).loc Cert.ReferenceInSsdIdeal.main_arg2) = m ((c.tc : Thread Cert.KernelInSsdIdeal.nD Cert.KernelInSsdIdeal.τ).loc Cert.KernelInSsdIdeal.main_arg2)) →
    ∃ (v0 : (c : Dev Cert.KernelInSsdIdeal.nD) → Buf (Elt Ideal) ((c.tc : Thread Cert.KernelInSsdIdeal.nD Cert.KernelInSsdIdeal.τ).loc Cert.KernelInSsdIdeal.main_v8)),
      θ_run (Cert.KernelInSsdIdeal.defs (F := Ideal)) (onTc (τ := Cert.KernelInSsdIdeal.τ) (Cert.KernelInSsdIdeal.main (F := Ideal))) ⟨m, fun _ => 0, g⟩ (fun r => ∀ c : Dev Cert.KernelInSsdIdeal.nD,
          r.2.mem ((c.tc : Thread Cert.KernelInSsdIdeal.nD Cert.KernelInSsdIdeal.τ).loc Cert.KernelInSsdIdeal.main_v8) = v0 c
          ∧ r.2.mem ((c.tc : Thread Cert.KernelInSsdIdeal.nD Cert.KernelInSsdIdeal.τ).loc Cert.KernelInSsdIdeal.main_arg0) = m ((c.tc : Thread Cert.KernelInSsdIdeal.nD Cert.KernelInSsdIdeal.τ).loc Cert.KernelInSsdIdeal.main_arg0)
          ∧ r.2.mem ((c.tc : Thread Cert.KernelInSsdIdeal.nD Cert.KernelInSsdIdeal.τ).loc Cert.KernelInSsdIdeal.main_arg1) = m ((c.tc : Thread Cert.KernelInSsdIdeal.nD Cert.KernelInSsdIdeal.τ).loc Cert.KernelInSsdIdeal.main_arg1)
          ∧ r.2.mem ((c.tc : Thread Cert.KernelInSsdIdeal.nD Cert.KernelInSsdIdeal.τ).loc Cert.KernelInSsdIdeal.main_arg2) = m ((c.tc : Thread Cert.KernelInSsdIdeal.nD Cert.KernelInSsdIdeal.τ).loc Cert.KernelInSsdIdeal.main_arg2))
      ∧ θ_run (Cert.ReferenceInSsdIdeal.defs (F := Ideal)) (onTc (τ := Cert.ReferenceInSsdIdeal.τ) (Cert.ReferenceInSsdIdeal.main (F := Ideal))) ⟨m', fun _ => 0, g'⟩ (fun r => ∀ c : Dev Cert.ReferenceInSsdIdeal.nD,
          r.2.mem ((c.tc : Thread Cert.ReferenceInSsdIdeal.nD Cert.ReferenceInSsdIdeal.τ).loc Cert.ReferenceInSsdIdeal.main_v20) = v0 c
          ∧ r.2.mem ((c.tc : Thread Cert.ReferenceInSsdIdeal.nD Cert.ReferenceInSsdIdeal.τ).loc Cert.ReferenceInSsdIdeal.main_arg0) = m' ((c.tc : Thread Cert.ReferenceInSsdIdeal.nD Cert.ReferenceInSsdIdeal.τ).loc Cert.ReferenceInSsdIdeal.main_arg0)
          ∧ r.2.mem ((c.tc : Thread Cert.ReferenceInSsdIdeal.nD Cert.ReferenceInSsdIdeal.τ).loc Cert.ReferenceInSsdIdeal.main_arg1) = m' ((c.tc : Thread Cert.ReferenceInSsdIdeal.nD Cert.ReferenceInSsdIdeal.τ).loc Cert.ReferenceInSsdIdeal.main_arg1)
          ∧ r.2.mem ((c.tc : Thread Cert.ReferenceInSsdIdeal.nD Cert.ReferenceInSsdIdeal.τ).loc Cert.ReferenceInSsdIdeal.main_arg2) = m' ((c.tc : Thread Cert.ReferenceInSsdIdeal.nD Cert.ReferenceInSsdIdeal.τ).loc Cert.ReferenceInSsdIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v6)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v6) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v18) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelMem_KernelMemIdeal : Prop :=
  True

def algebraic_KernelMemIdeal_ReferenceMemIdeal_pre_finite_qk [hKernelMemIdeal : Cert.KernelMemIdeal.Facts] [hReferenceMemIdeal : Cert.ReferenceMemIdeal.Facts] [hPre_finite_qk : Cert.Pre_finite_qk.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal_finite_qk m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)) →
    ∃ (v0 : (c : Dev Cert.KernelMemIdeal.nD) → Buf (Elt Ideal) ((c.tc : Thread Cert.KernelMemIdeal.nD Cert.KernelMemIdeal.τ).loc Cert.KernelMemIdeal.main_v0)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v0) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v25) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1))

def Claim : Prop :=
  ∃ (hKernelFfn : Cert.KernelFfn.Facts) (hKernelFfnIdeal : Cert.KernelFfnIdeal.Facts) (hReferenceFfnIdeal : Cert.ReferenceFfnIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelCombine : Cert.KernelCombine.Facts) (hKernelCombineIdeal : Cert.KernelCombineIdeal.Facts) (hReferenceCombineIdeal : Cert.ReferenceCombineIdeal.Facts) (hKernelExpert : Cert.KernelExpert.Facts) (hKernelExpertIdeal : Cert.KernelExpertIdeal.Facts) (hReferenceExpertIdeal : Cert.ReferenceExpertIdeal.Facts) (hKernelInSsd : Cert.KernelInSsd.Facts) (hKernelInSsdIdeal : Cert.KernelInSsdIdeal.Facts) (hReferenceInSsdIdeal : Cert.ReferenceInSsdIdeal.Facts) (hKernelKv : Cert.KernelKv.Facts) (hKernelKvIdeal : Cert.KernelKvIdeal.Facts) (hReferenceKvIdeal : Cert.ReferenceKvIdeal.Facts) (hKernelMem : Cert.KernelMem.Facts) (hKernelMemIdeal : Cert.KernelMemIdeal.Facts) (hReferenceMemIdeal : Cert.ReferenceMemIdeal.Facts) (hPre_table_in_range : Cert.Pre_table_in_range.Facts) (hPre_finite_qk : Cert.Pre_finite_qk.Facts),
    quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelExpert (hKernelExpert := hKernelExpert) (hPre_table_in_range := hPre_table_in_range)
    ∧ quiescent_KernelExpertIdeal (hKernelExpertIdeal := hKernelExpertIdeal) (hPre_table_in_range := hPre_table_in_range)
    ∧ quiescent_ReferenceExpertIdeal (hReferenceExpertIdeal := hReferenceExpertIdeal)
    ∧ quiescent_ReferenceExpertIdeal_pre_table_in_range (hReferenceExpertIdeal := hReferenceExpertIdeal) (hPre_table_in_range := hPre_table_in_range)
    ∧ quiescent_KernelInSsd (hKernelInSsd := hKernelInSsd)
    ∧ quiescent_KernelInSsdIdeal (hKernelInSsdIdeal := hKernelInSsdIdeal)
    ∧ quiescent_ReferenceInSsdIdeal (hReferenceInSsdIdeal := hReferenceInSsdIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMem (hKernelMem := hKernelMem)
    ∧ quiescent_KernelMemIdeal (hKernelMemIdeal := hKernelMemIdeal)
    ∧ quiescent_KernelMemIdeal_pre_finite_qk (hKernelMemIdeal := hKernelMemIdeal) (hPre_finite_qk := hPre_finite_qk)
    ∧ quiescent_ReferenceMemIdeal (hReferenceMemIdeal := hReferenceMemIdeal)
    ∧ quiescent_ReferenceMemIdeal_pre_finite_qk (hReferenceMemIdeal := hReferenceMemIdeal) (hPre_finite_qk := hPre_finite_qk)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelExpert_KernelExpertIdeal
    ∧ algebraic_KernelExpertIdeal_ReferenceExpertIdeal (hKernelExpertIdeal := hKernelExpertIdeal) (hReferenceExpertIdeal := hReferenceExpertIdeal) (hPre_table_in_range := hPre_table_in_range)
    ∧ preserves_KernelInSsd_KernelInSsdIdeal
    ∧ algebraic_KernelInSsdIdeal_ReferenceInSsdIdeal (hKernelInSsdIdeal := hKernelInSsdIdeal) (hReferenceInSsdIdeal := hReferenceInSsdIdeal)
    ∧ preserves_KernelKv_KernelKvIdeal
    ∧ algebraic_KernelKvIdeal_ReferenceKvIdeal (hKernelKvIdeal := hKernelKvIdeal) (hReferenceKvIdeal := hReferenceKvIdeal)
    ∧ preserves_KernelMem_KernelMemIdeal
    ∧ algebraic_KernelMemIdeal_ReferenceMemIdeal_pre_finite_qk (hKernelMemIdeal := hKernelMemIdeal) (hReferenceMemIdeal := hReferenceMemIdeal) (hPre_finite_qk := hPre_finite_qk)
-- ==== Pre_finite_qk.lean ====
abbrev S16x2048x5120 : Shape := ⟨3, ![16, 2048, 5120]⟩
abbrev S16x256x1024 : Shape := ⟨3, ![16, 256, 1024]⟩
abbrev S16x2048x512 : Shape := ⟨3, ![16, 2048, 512]⟩
abbrev S16x256x512 : Shape := ⟨3, ![16, 256, 512]⟩
abbrev S16x2304x512 : Shape := ⟨3, ![16, 2304, 512]⟩
abbrev S_ : Shape := ⟨0, ![]⟩

class Facts : Prop where
  slices_S16x2048x5120_S16x2048x512_0_0_4608 : S16x2048x5120.Slices ![0, 0, 4608] S16x2048x512
  slices_S16x256x1024_S16x256x512_0_0_0 : S16x256x1024.Slices ![0, 0, 0] S16x256x512
  concatenates_S16x2048x512_S16x256x512_S16x2304x512_d1 : Shape.Concatenates [S16x2048x512, S16x256x512] S16x2304x512 1
  bitsLt_bf16_f32 : FTy.bits .bf16 < FTy.bits .f32
  bcast_S_S16x2304x512 : S_.BroadcastsInDim S16x2304x512 (![] : Fin 0 → Fin S16x2304x512.rank)

variable [Facts]

def fn {F : FTy → Type} [FloatOps F] (main_arg0 : FVec F S16x2048x5120 .bf16) (main_arg1 : FVec F S16x256x1024 .bf16) : IVec S16x2304x512 1 :=
  let main_v0 : FVec F S16x2048x512 .bf16 := (extractStridedSlice S16x2048x512 ![0, 0, 4608] · slices_S16x2048x5120_S16x2048x512_0_0_4608) main_arg0
  let main_v1 : FVec F S16x256x512 .bf16 := (extractStridedSlice S16x256x512 ![0, 0, 0] · slices_S16x256x1024_S16x256x512_0_0_0) main_arg1
  let main_v2 : FVec F S16x2304x512 .bf16 := (fun a b => concatenate S16x2304x512 1 [⟨S16x2048x512, a⟩, ⟨S16x256x512, b⟩] concatenates_S16x2048x512_S16x256x512_S16x2304x512_d1) main_v0 main_v1
  let main_v3 : FVec F S16x2304x512 .f32 := (extf .f32 · bitsLt_bf16_f32) main_v2
  let main_v4 : FVec F S16x2304x512 .f32 := Host.absf main_v3
  let main_cst : FVec F S_ .f32 := constant S_ .f32 0x7F800000#32
  let main_v5 : FVec F S16x2304x512 .f32 := broadcastInDim S16x2304x512 ![] bcast_S_S16x2304x512 main_cst
  let main_v6 : IVec S16x2304x512 1 := cmpf .olt main_v4 main_v5
  main_v6
-- ==== Pre_table_in_range.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S73728x1024 .bf16) (main_arg3 : FVec F S8x1024x3584 .bf16) (main_arg4 : FVec F S8x1024x3584 .bf16) (main_arg5 : FVec F S8x3584x1024 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== KernelFfn.lean ====
abbrev S32768x1024 : Shape := ⟨2, ![32768, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S1024x3584 : Shape := ⟨2, ![1024, 3584]⟩
abbrev S3584x1024 : Shape := ⟨2, ![3584, 1024]⟩
abbrev S1024x1024 : Shape := ⟨2, ![1024, 1024]⟩
abbrev S1024x512 : Shape := ⟨2, ![1024, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S1024x3584, .f32⟩
  | .hbm, ⟨8, _⟩ => ⟨S1024x3584, .bf16⟩
  | .hbm, ⟨9, _⟩ => ⟨S1024x3584, .f32⟩
  | .hbm, ⟨10, _⟩ => ⟨S1024x3584, .bf16⟩
  | .hbm, ⟨11, _⟩ => ⟨S3584x1024, .f32⟩
  | .hbm, ⟨12, _⟩ => ⟨S3584x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S32768x1024 : Shape := ⟨2, ![32768, 1024]⟩
abbrev S2x1024 : Shape := ⟨2, ![2, 1024]⟩
abbrev S1x1024x3584 : Shape := ⟨3, ![1, 1024, 3584]⟩
abbrev S1x3584x1024 : Shape := ⟨3, ![1, 3584, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3584 : Shape := ⟨2, ![1024, 3584]⟩
abbrev S32768x3584 : Shape := ⟨2, ![32768, 3584]⟩
abbrev S3584x1024 : Shape := ⟨2, ![3584, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x3584, .f32⟩
  | .hbm, ⟨24, _⟩ => ⟨S32768x3584, .f32⟩
  | .hbm, ⟨25, _⟩ => ⟨S32768x3584, .f32⟩
  | .hbm, ⟨26, _⟩ => ⟨S32768x3584, .f32⟩
  | .hbm, ⟨27, _⟩ => ⟨S_, .f32⟩
  | .hbm, ⟨28, _⟩ => ⟨S32768x3584, .f32⟩
  | .hbm, ⟨29, _⟩ => ⟨S32768x3584, .f32⟩
  | .hbm, ⟨30, _⟩ => ⟨S_, .f32⟩
  | .hbm, ⟨31, _⟩ => ⟨S32768x3584, .f32⟩
  | .hbm, ⟨32, _⟩ => ⟨S32768x3584, .f32⟩
  | .hbm, ⟨33, _⟩ => ⟨S32768x3584, .f32⟩
  | .hbm, ⟨34, _⟩ => ⟨S1024x3584, .f32⟩
  | .hbm, ⟨35, _⟩ => ⟨S32768x3584, .f32⟩
  | .hbm, ⟨36, _⟩ => ⟨S32768x3584, .f32⟩
  | .hbm, ⟨37, _⟩ => ⟨S3584x1024, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== KernelOut.lean ====
abbrev S32768x1024 : Shape := ⟨2, ![32768, 1024]⟩
abbrev S32768x1536 : Shape := ⟨2, ![32768, 1536]⟩
abbrev S32768x512 : Shape := ⟨2, ![32768, 512]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S1536x1024 : Shape := ⟨2, ![1536, 1024]⟩
abbrev S512x1024 : Shape := ⟨2, ![512, 1024]⟩
abbrev S512x1536 : Shape := ⟨2, ![512, 1536]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1536, .bf16⟩
  | .hbm, ⟨2, _⟩ => ⟨S32768x512, .bf16⟩
  | .hbm, ⟨3, _⟩ => ⟨S2x2048x1024, .f32⟩
  | .hbm, ⟨4, _⟩ => ⟨S1x2048x1024, .f32⟩
  | .hbm, ⟨5, _⟩ => ⟨S2048x1024, .f32⟩
  | .hbm, ⟨6, _⟩ => ⟨S2048x1024, .bf16⟩
  | .hbm, ⟨7, _⟩ => ⟨S1536x1024, .bf16⟩
  | .hbm, ⟨8, _⟩ => ⟨S512x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S1536x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S32768x1024 : Shape := ⟨2, ![32768, 1024]⟩
abbrev S32768x1536 : Shape := ⟨2, ![32768, 1536]⟩
abbrev S32768x512 : Shape := ⟨2, ![32768, 512]⟩
abbrev S2x2048x1024 : Shape := ⟨3, ![2, 2048, 1024]⟩
abbrev S32768x2048 : Shape := ⟨2, ![32768, 2048]⟩
abbrev S1x2048x1024 : Shape := ⟨3, ![1, 2048, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1536, .bf16⟩
  | .hbm, ⟨2, _⟩ => ⟨S32768x512, .bf16⟩
  | .hbm, ⟨3, _⟩ => ⟨S2x2048x1024, .f32⟩
  | .hbm, ⟨4, _⟩ => ⟨S32768x1536, .f32⟩
  | .hbm, ⟨5, _⟩ => ⟨S32768x512, .f32⟩
  | .hbm, ⟨6, _⟩ => ⟨S32768x2048, .f32⟩
  | .hbm, ⟨7, _⟩ => ⟨S1x2048x1024, .f32⟩
  | .hbm, ⟨8, _⟩ => ⟨S2048x1024, .f32⟩
  | .hbm, ⟨9, _⟩ => ⟨S32768x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelIn.lean ====
abbrev S32768x1024 : Shape := ⟨2, ![32768, 1024]⟩
abbrev S2x1024 : Shape := ⟨2, ![2, 1024]⟩
abbrev S1x1024x5120 : Shape := ⟨3, ![1, 1024, 5120]⟩
abbrev S1x1024 : Shape := ⟨2, ![1, 1024]⟩
abbrev S1024 : Shape := ⟨1, ![1024]⟩
abbrev S1024x5120 : Shape := ⟨2, ![1024, 5120]⟩
abbrev S32768x5120 : Shape := ⟨2, ![32768, 5120]⟩
abbrev S1024x1024 : Shape := ⟨2, ![1024, 1024]⟩
abbrev S1024x1280 : Shape := ⟨2, ![1024, 1280]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x5120, .f32⟩
  | .hbm, ⟨3, _⟩ => ⟨S1x1024, .f32⟩
  | .hbm, ⟨4, _⟩ => ⟨S1024, .f32⟩
  | .hbm, ⟨5, _⟩ => ⟨S1024x5120, .f32⟩
  | .hbm, ⟨6, _⟩ => ⟨S1024x5120, .bf16⟩
  | .hbm, ⟨7, _⟩ => ⟨S1x1024, .f32⟩
  | .hbm, ⟨8, _⟩ => ⟨S32768x5120, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S32768x1024 : Shape := ⟨2, ![32768, 1024]⟩
abbrev S2x1024 : Shape := ⟨2, ![2, 1024]⟩
abbrev S1x1024x5120 : Shape := ⟨3, ![1, 1024, 5120]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5120 : Shape := ⟨2, ![1024, 5120]⟩
abbrev S32768x5120 : Shape := ⟨2, ![32768, 5120]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x5120, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x5120, .f32⟩
  | .hbm, ⟨22, _⟩ => ⟨S32768x5120, .f32⟩
  | .hbm, ⟨23, _⟩ => ⟨S32768x5120, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelCombine.lean ====
abbrev S32768x1024 : Shape := ⟨2, ![32768, 1024]⟩
abbrev S32768x1 : Shape := ⟨2, ![32768, 1]⟩
abbrev S1024 : Shape := ⟨1, ![1024]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1, .f32⟩
  | .hbm, ⟨4, _⟩ => ⟨S32768x1, .f32⟩
  | .hbm, ⟨5, _⟩ => ⟨S1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceCombineIdeal.lean ====
abbrev S32768x1024 : Shape := ⟨2, ![32768, 1024]⟩
abbrev S32768x1 : Shape := ⟨2, ![32768, 1]⟩
abbrev S1024 : Shape := ⟨1, ![1024]⟩
abbrev S32768x1x1024 : Shape := ⟨3, ![32768, 1, 1024]⟩
abbrev S32768x2x1024 : Shape := ⟨3, ![32768, 2, 1024]⟩
abbrev S32768x2 : Shape := ⟨2, ![32768, 2]⟩
abbrev S_ : Shape := ⟨0, ![]⟩
abbrev S32768 : Shape := ⟨1, ![32768]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1, .f32⟩
  | .hbm, ⟨4, _⟩ => ⟨S32768x1, .f32⟩
  | .hbm, ⟨5, _⟩ => ⟨S1024, .f32⟩
  | .hbm, ⟨6, _⟩ => ⟨S32768x1x1024, .f32⟩
  | .hbm, ⟨7, _⟩ => ⟨S32768x1x1024, .f32⟩
  | .hbm, ⟨8, _⟩ => ⟨S32768x2x1024, .f32⟩
  | .hbm, ⟨9, _⟩ => ⟨S32768x2, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelExpert.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S73728x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S73728x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S72, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c6_i32_21 : BitVec 32 := 6#32
  let v35 : BitVec 1 := Scalar.cmpi .eq arg1 c6_i32_21
  let v36 : BitVec 32 := Scalar.extui v35
  let c0_i32_22 : BitVec 32 := 0#32
  let v37 : BitVec 1 := Scalar.cmpi .ne v36 c0_i32_22
  v37

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c6_i32 : BitVec 32 := 6#32
  let v5 : BitVec 1 := Scalar.cmpi .eq arg1 c6_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceExpertIdeal.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S72x1024x1024 : Shape := ⟨3, ![72, 1024, 1024]⟩
abbrev S_ : Shape := ⟨0, ![]⟩
abbrev S72x1 : Shape := ⟨2, ![72, 1]⟩
abbrev S72x1024x3584 : Shape := ⟨3, ![72, 1024, 3584]⟩
abbrev S72x3584x1024 : Shape := ⟨3, ![72, 3584, 1024]⟩
abbrev S72x1x1 : Shape := ⟨3, ![72, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .bf16⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S73728x1024, .f32⟩
  | .hbm, ⟨7, _⟩ => ⟨S72x1024x1024, .f32⟩
  | .hbm, ⟨8, _⟩ => ⟨S_, .i32⟩
  | .hbm, ⟨9, _⟩ => ⟨S72, .i32⟩
  | .hbm, ⟨10, _⟩ => ⟨S72, .i1⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72, .i32⟩
  | .hbm, ⟨15, _⟩ => ⟨S72x1, .i32⟩
  | .hbm, ⟨16, _⟩ => ⟨S72x1024x3584, .bf16⟩
  | .hbm, ⟨17, _⟩ => ⟨S72x1024x3584, .f32⟩
  | .hbm, ⟨18, _⟩ => ⟨S72x1024x3584, .f32⟩
  | .hbm, ⟨19, _⟩ => ⟨S_, .i32⟩
  | .hbm, ⟨20, _⟩ => ⟨S72, .i32⟩
  | .hbm, ⟨21, _⟩ => ⟨S72, .i1⟩
  | .hbm, ⟨22, _⟩ => ⟨S_, .i32⟩
  | .hbm, ⟨23, _⟩ => ⟨S72, .i32⟩
  | .hbm, ⟨24, _⟩ => ⟨S72, .i32⟩
  | .hbm, ⟨25, _⟩ => ⟨S72, .i32⟩
  | .hbm, ⟨26, _⟩ => ⟨S72x1, .i32⟩
  | .hbm, ⟨27, _⟩ => ⟨S72x1024x3584, .bf16⟩
  | .hbm, ⟨28, _⟩ => ⟨S72x1024x3584, .f32⟩
  | .hbm, ⟨29, _⟩ => ⟨S72x1024x3584, .f32⟩
  | .hbm, ⟨30, _⟩ => ⟨S72x1024x3584, .f32⟩
  | .hbm, ⟨31, _⟩ => ⟨S72x1024x3584, .f32⟩
  | .hbm, ⟨32, _⟩ => ⟨S_, .f32⟩
  | .hbm, ⟨33, _⟩ => ⟨S72x1024x3584, .f32⟩
  | .hbm, ⟨34, _⟩ => ⟨S72x1024x3584, .f32⟩
  | .hbm, ⟨35, _⟩ => ⟨S_, .f32⟩
  | .hbm, ⟨36, _⟩ => ⟨S72x1024x3584, .f32⟩
  | .hbm, ⟨37, _⟩ => ⟨S72x1024x3584, .f32⟩
  | .hbm, ⟨38, _⟩ => ⟨S72x1024x3584, .f32⟩
  | .hbm, ⟨39, _⟩ => ⟨S72x1024x3584, .f32⟩
  | .hbm, ⟨40, _⟩ => ⟨S_, .i32⟩
  | .hbm, ⟨41, _⟩ => ⟨S72, .i32⟩
  | .hbm, ⟨42, _⟩ => ⟨S72, .i1⟩
  | .hbm, ⟨43, _⟩ => ⟨S_, .i32⟩
  | .hbm, ⟨44, _⟩ => ⟨S72, .i32⟩
  | .hbm, ⟨45, _⟩ => ⟨S72, .i32⟩
  | .hbm, ⟨46, _⟩ => ⟨S72, .i32⟩
  | .hbm, ⟨47, _⟩ => ⟨S72x1, .i32⟩
  | .hbm, ⟨48, _⟩ => ⟨S72x3584x1024, .bf16⟩
  | .hbm, ⟨49, _⟩ => ⟨S72x3584x1024, .f32⟩
  | .hbm, ⟨50, _⟩ => ⟨S72x1024x1024, .f32⟩
  | .hbm, ⟨51, _⟩ => ⟨S72, .i32⟩
  | .hbm, ⟨52, _⟩ => ⟨S_, .i32⟩
  | .hbm, ⟨53, _⟩ => ⟨S72, .i32⟩
  | .hbm, ⟨54, _⟩ => ⟨S72, .i1⟩
  | .hbm, ⟨55, _⟩ => ⟨S72x1x1, .i1⟩
  | .hbm, ⟨56, _⟩ => ⟨S_, .f32⟩
  | .hbm, ⟨57, _⟩ => ⟨S_, .f32⟩
  | .hbm, ⟨58, _⟩ => ⟨S72x1024x1024, .i1⟩
  | .hbm, ⟨59, _⟩ => ⟨S72x1024x1024, .f32⟩
  | .hbm, ⟨60, _⟩ => ⟨S72x1024x1024, .f32⟩
  | .hbm, ⟨61, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== KernelInSsd.lean ====
abbrev S32768x1024 : Shape := ⟨2, ![32768, 1024]⟩
abbrev S2x1024 : Shape := ⟨2, ![2, 1024]⟩
abbrev S1x1024x4632 : Shape := ⟨3, ![1, 1024, 4632]⟩
abbrev S1024x4632 : Shape := ⟨2, ![1024, 4632]⟩
abbrev S1024x4096 : Shape := ⟨2, ![1024, 4096]⟩
abbrev S1024x512 : Shape := ⟨2, ![1024, 512]⟩
abbrev S1024x4608 : Shape := ⟨2, ![1024, 4608]⟩
abbrev S1x1024 : Shape := ⟨2, ![1, 1024]⟩
abbrev S1024 : Shape := ⟨1, ![1024]⟩
abbrev S32768x4608 : Shape := ⟨2, ![32768, 4608]⟩
abbrev S1024x1024 : Shape := ⟨2, ![1024, 1024]⟩
abbrev S1024x1536 : Shape := ⟨2, ![1024, 1536]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x4632, .f32⟩
  | .hbm, ⟨3, _⟩ => ⟨S1024x4632, .f32⟩
  | .hbm, ⟨4, _⟩ => ⟨S1024x4096, .f32⟩
  | .hbm, ⟨5, _⟩ => ⟨S1024x512, .f32⟩
  | .hbm, ⟨6, _⟩ => ⟨S1024x4608, .f32⟩
  | .hbm, ⟨7, _⟩ => ⟨S1024x4608, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S32768x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInSsdIdeal.lean ====
abbrev S32768x1024 : Shape := ⟨2, ![32768, 1024]⟩
abbrev S2x1024 : Shape := ⟨2, ![2, 1024]⟩
abbrev S1x1024x4632 : Shape := ⟨3, ![1, 1024, 4632]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4632 : Shape := ⟨2, ![1024, 4632]⟩
abbrev S32768x4632 : Shape := ⟨2, ![32768, 4632]⟩
abbrev S32768x4096 : Shape := ⟨2, ![32768, 4096]⟩
abbrev S32768x512 : Shape := ⟨2, ![32768, 512]⟩
abbrev S32768x4608 : Shape := ⟨2, ![32768, 4608]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x4632, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x4632, .f32⟩
  | .hbm, ⟨22, _⟩ => ⟨S32768x4632, .f32⟩
  | .hbm, ⟨23, _⟩ => ⟨S32768x4096, .f32⟩
  | .hbm, ⟨24, _⟩ => ⟨S32768x512, .f32⟩
  | .hbm, ⟨25, _⟩ => ⟨S32768x4608, .f32⟩
  | .hbm, ⟨26, _⟩ => ⟨S32768x4608, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelKv.lean ====
abbrev S4096x1024 : Shape := ⟨2, ![4096, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKvIdeal.lean ====
abbrev S4096x1024 : Shape := ⟨2, ![4096, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x1024, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x1024, .f32⟩
  | .hbm, ⟨22, _⟩ => ⟨S1024x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelMem.lean ====
abbrev S16x2048x5120 : Shape := ⟨3, ![16, 2048, 5120]⟩
abbrev S16x256x1024 : Shape := ⟨3, ![16, 256, 1024]⟩
abbrev S16x2048x512 : Shape := ⟨3, ![16, 2048, 512]⟩
abbrev S1x2048x128 : Shape := ⟨3, ![1, 2048, 128]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S16x2048x5120, .bf16⟩
  | .hbm, ⟨1, _⟩ => ⟨S16x256x1024, .bf16⟩
  | .hbm, ⟨2, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | _, _ => ⟨S16x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  v8
def k0_off1 (k0_t1 : Fin k0_t1_loop.trips) : Fin 3 → Nat :=
  let c0_6 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v10 : Index := Scalar.indexCast v9
  let c0_7 : Index := 0#32
  ![0, v10.toNat, 0]
def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMemIdeal.lean ====
abbrev S16x2048x5120 : Shape := ⟨3, ![16, 2048, 5120]⟩
abbrev S16x256x1024 : Shape := ⟨3, ![16, 256, 1024]⟩
abbrev S16x2048x512 : Shape := ⟨3, ![16, 2048, 512]⟩
abbrev S16x256x512 : Shape := ⟨3, ![16, 256, 512]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x5120, .bf16⟩
  | .hbm, ⟨1, _⟩ => ⟨S16x256x1024, .bf16⟩
  | .hbm, ⟨2, _⟩ => ⟨S16x2048x512, .bf16⟩
  | .hbm, ⟨3, _⟩ => ⟨S16x2048x512, .f32⟩
  | .hbm, ⟨4, _⟩ => ⟨S16x256x1024, .f32⟩
  | .hbm, ⟨5, _⟩ => ⟨S16x256x512, .f32⟩
  | .hbm, ⟨6, _⟩ => ⟨S16x256x512, .f32⟩
  | .hbm, ⟨7, _⟩ => ⟨S16x2048x4x128, .f32⟩
  | .hbm, ⟨8, _⟩ => ⟨S16x256x4x128, .f32⟩
  | .hbm, ⟨9, _⟩ => ⟨S16x256x4x128, .f32⟩
  | .hbm, ⟨10, _⟩ => ⟨S16x4x2048x256, .f32⟩
  | .hbm, ⟨11, _⟩ => ⟨S_, .f32⟩
  | .hbm, ⟨12, _⟩ => ⟨S16x4x2048x256, .f32⟩
  | .hbm, ⟨13, _⟩ => ⟨S16x4x2048x256, .f32⟩
  | .hbm, ⟨14, _⟩ => ⟨S_, .f32⟩
  | .hbm, ⟨15, _⟩ => ⟨S16x4x2048, .f32⟩
  | .hbm, ⟨16, _⟩ => ⟨S_, .f32⟩
  | .hbm, ⟨17, _⟩ => ⟨S16x4x2048, .f32⟩
  | .hbm, ⟨18, _⟩ => ⟨S16x4x2048, .f32⟩
  | .hbm, ⟨19, _⟩ => ⟨S16x4x2048x1, .f32⟩
  | .hbm, ⟨20, _⟩ => ⟨S16x4x2048x256, .f32⟩
  | .hbm, ⟨21, _⟩ => ⟨S16x4x2048x256, .f32⟩
  | .hbm, ⟨22, _⟩ => ⟨S16x4x2048x256, .f32⟩
  | .hbm, ⟨23, _⟩ => ⟨S_, .f32⟩
  | .hbm, ⟨24, _⟩ => ⟨S16x4x2048, .f32⟩
  | .hbm, ⟨25, _⟩ => ⟨S16x4x2048x1, .f32⟩
  | .hbm, ⟨26, _⟩ => ⟨S16x4x2048x256, .f32⟩
  | .hbm, ⟨27, _⟩ => ⟨S16x4x2048x256, .f32⟩
  | .hbm, ⟨28, _⟩ => ⟨S16x4x128x2048, .f32⟩
  | .hbm, ⟨29, _⟩ => ⟨S16x2048x4x128, .f32⟩
  | .hbm, ⟨30, _⟩ => ⟨S16x2048x512, .f32⟩
  | .hbm, ⟨31, _⟩ => ⟨S16x2048x512, .bf16⟩
  | _, _ => ⟨S16x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Ffn.Reference.lean ====
/- The reference of the dense SwiGLU, as a term over its arguments. -/
module

public import proofs.«01_k».proof.Proof.Gen.ReferenceFfnIdeal.Run
public import Idealize.ShloMosaic.Lib.Pipeline.ValueKit

@[expose] public section

noncomputable section

open Idealize.ShloMosaic Idealize.ShloMosaic.TcCoe Idealize.SL.Sem

namespace Cert.ReferenceFfnIdeal.Term

open Cert.ReferenceFfnIdeal Cert.ReferenceFfnIdeal.Gen

/-- The normalized rows. -/
def normed (x : FVec Ideal S32768x1024 .f32) (g : FVec Ideal S2x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] g slices_S2x1024_S1x1024_0_0) shapeCasts_S1x1024_S1024)))

/-- One of the two widening products. -/
def proj (x : FVec Ideal S32768x1024 .f32) (g : FVec Ideal S2x1024 .f32) (wg : FVec Ideal S1x1024x3584 .f32) : FVec Ideal S32768x3584 .f32 :=
  Host.dotGeneral dot_S32768x1024_S1024x3584_S32768x3584_1_0_0_1_n_n none (normed x g) (shapeCast _ wg shapeCasts_S1x1024x3584_S1024x3584)

/-- The gated hidden layer. -/
def act (x : FVec Ideal S32768x1024 .f32) (g : FVec Ideal S2x1024 .f32) (wg wu : FVec Ideal S1x1024x3584 .f32) : FVec Ideal S32768x3584 .f32 :=
  mulf (mulf (proj x g wg) (Host.divf (broadcastInDim S32768x3584 ![] bcast_S_S32768x3584 (constant S_ .f32 0x3F800000#32)) (addf (broadcastInDim S32768x3584 ![] bcast_S_S32768x3584 (constant S_ .f32 0x3F800000#32)) (Host.exp (Host.negf (proj x g wg)))))) (proj x g wu)

/-- The residual plus the narrowing product. -/
def result (x : FVec Ideal S32768x1024 .f32) (g : FVec Ideal S2x1024 .f32) (wg wu : FVec Ideal S1x1024x3584 .f32) (wd : FVec Ideal S1x3584x1024 .f32) : FVec Ideal S32768x1024 .f32 :=
  addf x (Host.dotGeneral dot_S32768x3584_S3584x1024_S32768x1024_1_0_0_1_n_n none (act x g wg wu) (shapeCast _ wd shapeCasts_S1x3584x1024_S3584x1024))

end Cert.ReferenceFfnIdeal.Term

end
-- ==== Proof.Common.lean ====
/- Facts shared by the calls: reading a whole scratch buffer back after it was stored piece by piece. -/
module

public import Idealize.ShloMosaic.Lib.Pipeline.ValueKit

@[expose] public section

noncomputable section

open Idealize.ShloMosaic Idealize.ShloMosaic.TcCoe Idealize.SL.Sem

namespace Cert.Common

/-- A load of the whole buffer after several stores reads what the stores left. -/
theorem load_whole {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (L : List (View.Piece Val S e))
    (h : ∀ a, off a = 0) :
    v.readCov L (Rect.unit off (no_index S.size) inb).toLoadRect = View.canon L := by
  rw [View.readCov_eq_canon']
  exact View.ld_unit_lit inb (View.canon L) h

end Cert.Common

end
-- ==== Proof.Ffn.Array.lean ====
/- What the dense SwiGLU leaves in its result array. One carried scratch holds the normalized rows of the row block, the
   other the residual plus the hidden columns handled so far; the last hidden block writes it back. -/
module

public import proofs.«01_k».proof.Proof.Gen.KernelFfnIdeal.Value
public import proofs.«01_k».proof.Proof.Ffn.Reference
public import proofs.«01_k».proof.Proof.Common
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelFfnIdeal.Array

open Cert.KernelFfnIdeal Cert.KernelFfnIdeal.Gen
open Cert.ReferenceFfnIdeal.Term (normed proj act result)

variable (m : (ℓ : Loc nD τ sig) → Buf (Elt Ideal) ℓ)

/-- The block each window reads or writes at a grid point. -/
theorem idx : ∀ t : Fin cfg0.N, win0_0.index t = ![t.val / 7, 0] ∧ win0_1.index t = ![0, 0] ∧ win0_2.index t = ![0, t.val % 7]
    ∧ win0_3.index t = ![0, t.val % 7] ∧ win0_4.index t = ![t.val % 7, 0] ∧ win0_5.index t = ![t.val / 7, 0] :=
  (by decide +kernel : ∀ t : Fin grid0.N, _)

/-- At the first hidden block, the first scratch is filled with the normalized rows of the row block. -/
theorem scratch_A (c : Dev nD) (t : Fin cfg0.N) (h0 : t.val % 7 = 0) (y : S1024x1024.Idx) (i : S32768x1024.Idx)
    (hi0 : (i 0 : ℕ) = t.val / 7 * 1024 + y 0) (hi1 : (i 1 : ℕ) = y 1) :
    (outsAt0 m c t.val t.isLt).2.1 y
      = normed (m ((c : Thread nD τ).loc main_arg0)) (m ((c : Thread nD τ).loc main_arg1)) i := by
  rw [outsAt0_A m c t h0 (by omega)]
  frame_out
  clear h0
  canon_tiles x h
  all_goals
    open_payloads
    pointwise [normed]
    blk_point [iblk, V, idx t]

/-- At a later hidden block, the first scratch is kept. -/
theorem scratch_B (c : Dev nD) (t : Fin cfg0.N) (h0 : ¬ t.val % 7 = 0) :
    (outsAt0 m c t.val t.isLt).2.1 = (outsAt0 m c (t.val - 1) (Nat.lt_of_le_of_lt (Nat.sub_le _ _) t.isLt)).2.1 := by
  by_cases h1 : t.val % 7 = 6
  · rw [outsAt0_C m c t h0 h1]
    rfl
  · rw [outsAt0_B m c t h0 h1]
    rfl

/-- At every grid point the first scratch holds the normalized rows of the point's row block. -/
theorem scratch (c : Dev nD) : ∀ (n : ℕ) (hn : n < cfg0.N) (y : S1024x1024.Idx) (i : S32768x1024.Idx),
    (i 0 : ℕ) = n / 7 * 1024 + y 0 → (i 1 : ℕ) = y 1 →
    (outsAt0 m c n hn).2.1 y
      = normed (m ((c : Thread nD τ).loc main_arg0)) (m ((c : Thread nD τ).loc main_arg1)) i
  | 0, hn, y, i, hi0, hi1 => scratch_A m c ⟨0, hn⟩ rfl y i hi0 hi1
  | n + 1, hn, y, i, hi0, hi1 => by
    by_cases h0 : (n + 1) % 7 = 0
    · exact scratch_A m c ⟨n + 1, hn⟩ h0 y i hi0 hi1
    · rw [scratch_B m c ⟨n + 1, hn⟩ h0]
      exact scratch c n _ y i (by omega) hi1

/-- The reference's hidden layer over the arguments. -/
abbrev hidden (c : Dev nD) : FVec Ideal Cert.ReferenceFfnIdeal.S32768x3584 .f32 :=
  act (m ((c : Thread nD τ).loc main_arg0)) (m ((c : Thread nD τ).loc main_arg1)) (m ((c : Thread nD τ).loc main_arg2))
    (m ((c : Thread nD τ).loc main_arg3))

/-- What hidden block `f` (512 hidden columns) adds to row `r`, column `d` of the result. -/
def part (c : Dev nD) (r : Fin 32768) (d : Fin 1024) (f : Fin 7) : EReal :=
  ∑ k : Fin 512, (hidden m c) (ix2 r ⟨f.val * 512 + k.val, by omega⟩)
    * (show FVec Ideal Cert.ReferenceFfnIdeal.S1x3584x1024 .f32 from m ((c : Thread nD τ).loc main_arg4)) (ix3 0 ⟨f.val * 512 + k.val, by omega⟩ d)

/-- One step of the accumulation: the accumulator plus the point's hidden block. -/
theorem step (c : Dev nD) (t : Fin cfg0.N) (h : FVec Ideal S1024x1024 .bf16) (a : FVec Ideal S1024x1024 .f32)
    (hh : ∀ (y : S1024x1024.Idx) (i : S32768x1024.Idx), (i 0 : ℕ) = t.val / 7 * 1024 + y 0 → (i 1 : ℕ) = y 1 →
      h y = normed (m ((c : Thread nD τ).loc main_arg0)) (m ((c : Thread nD τ).loc main_arg1)) i)
    (y : S1024x1024.Idx) (r : Fin 32768) (d : Fin 1024) (hr : r.val = t.val / 7 * 1024 + y 0) (hd : d.val = y 1)
    (f : Fin 7) (hf : f.val = t.val % 7) :
    k0_pay2 h (iblk m c 2 t) (iblk m c 3 t) a (iblk m c 4 t) y = a y + part m c r d f := by
  unfold part
  pointwise [k0_pay2, hidden, act, proj]
  have e : ∀ k : Fin 1024, h (ix2 (y 0) k)
      = normed (m ((c : Thread nD τ).loc main_arg0)) (m ((c : Thread nD τ).loc main_arg1)) (ix2 r k) :=
    fun k => hh _ _ hr rfl
  simp only [e]
  simp only [zero_sub]
  blk_point [iblk, V, idx t]

/-- At the first hidden block the second scratch holds the residual plus the first hidden block's share. -/
theorem acc_A (c : Dev nD) (t : Fin cfg0.N) (h0 : t.val % 7 = 0) (y : S1024x1024.Idx) (r : Fin 32768) (d : Fin 1024)
    (hr : r.val = t.val / 7 * 1024 + y 0) (hd : d.val = y 1) :
    (outsAt0 m c t.val t.isLt).2.2 y
      = (show FVec Ideal S32768x1024 .f32 from m ((c : Thread nD τ).loc main_arg0)) (ix2 r d) + part m c r d 0 := by
  have hs := scratch_A m c t h0
  rw [outsAt0_A m c t h0 (by omega)] at hs ⊢
  revert hs
  frame_out
  intro hs
  rw [Cert.Common.load_whole _ _ _ (by decide)]
  rw [step m c t _ _ hs y r d hr hd 0 (by simp [h0])]
  congr 1
  simp only [View.readCov_unit_lit', k0_pay1]
  blk_point [iblk, V, idx t]

/-- At a later hidden block the second scratch grows by that block's share. -/
theorem acc_B (c : Dev nD) (t : Fin cfg0.N) (h0 : ¬ t.val % 7 = 0) (y : S1024x1024.Idx) (r : Fin 32768) (d : Fin 1024)
    (hr : r.val = t.val / 7 * 1024 + y 0) (hd : d.val = y 1)
    (f : Fin 7) (hf : f.val = t.val % 7) :
    (outsAt0 m c t.val t.isLt).2.2 y
      = (outsAt0 m c (t.val - 1) (Nat.lt_of_le_of_lt (Nat.sub_le _ _) t.isLt)).2.2 y
        + part m c r d f := by
  have hs := scratch m c (t.val - 1) (Nat.lt_of_le_of_lt (Nat.sub_le _ _) t.isLt)
  rw [show (t.val - 1) / 7 = t.val / 7 by omega] at hs
  by_cases h1 : t.val % 7 = 6
  · rw [outsAt0_C m c t h0 h1]
    frame_out
    rw [read_unread_whole, read_unread_whole]
    exact step m c t _ _ hs y r d hr hd f hf
  · rw [outsAt0_B m c t h0 h1]
    frame_out
    rw [read_unread_whole, read_unread_whole]
    exact step m c t _ _ hs y r d hr hd f hf

/-- The last hidden block writes the second scratch back. -/
theorem out_C (c : Dev nD) (t : Fin cfg0.N) (h1 : t.val % 7 = 6) :
    (outsAt0 m c t.val t.isLt).1 = (outsAt0 m c t.val t.isLt).2.2 := by
  rw [outsAt0_C m c t (by omega) h1]
  frame_out

/-- A hidden block's share as a function of any number, zero past the last block. -/
def partN (c : Dev nD) (r : Fin 32768) (d : Fin 1024) (f : ℕ) : EReal :=
  if h : f < 7 then part m c r d ⟨f, h⟩ else 0

/-- The second scratch after any grid point: the residual plus the shares of the hidden blocks so far. -/
theorem acc (c : Dev nD) : ∀ (n : ℕ) (hn : n < cfg0.N) (y : S1024x1024.Idx) (r : Fin 32768) (d : Fin 1024),
    r.val = n / 7 * 1024 + y 0 → d.val = y 1 →
    (outsAt0 m c n hn).2.2 y
      = (show FVec Ideal S32768x1024 .f32 from m ((c : Thread nD τ).loc main_arg0)) (ix2 r d)
        + ∑ f ∈ Finset.range (n % 7 + 1), partN m c r d f
  | 0, hn, y, r, d, hr, hd => by
    rw [acc_A m c ⟨0, hn⟩ rfl y r d hr hd]
    simp [partN]
  | n + 1, hn, y, r, d, hr, hd => by
    by_cases h0 : (n + 1) % 7 = 0
    · rw [acc_A m c ⟨n + 1, hn⟩ h0 y r d hr hd, h0]
      simp [partN]
    · rw [acc_B m c ⟨n + 1, hn⟩ h0 y r d hr hd ⟨n % 7 + 1, by omega⟩ (by show n % 7 + 1 = (n + 1) % 7; omega)]
      show (outsAt0 m c n _).2.2 y + _ = _
      rw [acc c n _ y r d (by omega) hd, show (n + 1) % 7 = n % 7 + 1 by omega, Finset.sum_range_succ _ (n % 7 + 1), add_assoc]
      congr 2
      rw [partN, dif_pos (by omega)]

/-- The reference's result at a row and a column: the residual plus all seven shares. -/
theorem reference (c : Dev nD) (r : Fin 32768) (d : Fin 1024) :
    result (m ((c : Thread nD τ).loc main_arg0)) (m ((c : Thread nD τ).loc main_arg1)) (m ((c : Thread nD τ).loc main_arg2))
      (m ((c : Thread nD τ).loc main_arg3)) (m ((c : Thread nD τ).loc main_arg4)) (ix2 r d)
      = (show FVec Ideal S32768x1024 .f32 from m ((c : Thread nD τ).loc main_arg0)) (ix2 r d)
        + ∑ f ∈ Finset.range 7, partN m c r d f := by
  rw [Finset.sum_range]
  have e : ∀ f : Fin 7, partN m c r d f.val = part m c r d f := fun f => by rw [partN, dif_pos f.isLt]
  simp only [e, part]
  pointwise [result]
  congr 1
  symm
  exact Fin.sum_mul_add_congr fun f k hl => rfl

/-- The result array after the run. -/
theorem final (c : Dev nD) : (dats m 0 c).arrAt 5 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h6 := (flush0_5 t).mp hf
  obtain_idx i : S32768x1024 := [t.val / 7 * 1024 + (y 0 : ℕ), (y 1 : ℕ)] with hi
  have e : ((cfg0.win 5).blk t).view.emb y = ix2 (i 0) (i 1) := by blk_ext [idx t]
  rw [e]
  refine Eq.trans ?_ (reference m c (i 0) (i 1)).symm
  blk_simp
  rw [after0_5, out_C m c t h6]
  rw [acc m c t.val t.isLt y (i 0) (i 1) hi0 hi1, h6]

end Cert.KernelFfnIdeal.Array

end
-- ==== Proof.Out.Array.lean ====
/- What the output projection leaves in its result array: the residual plus both branches' products, which together are
   the reference's one product of the concatenated branches with the whole weight matrix. -/
module

public import proofs.«01_k».proof.Proof.Gen.KernelOutIdeal.Value
public import proofs.«01_k».proof.Proof.Gen.ReferenceOutIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutIdeal.Array

open Cert.KernelOutIdeal Cert.KernelOutIdeal.Gen

variable (m : (ℓ : Loc nD τ sig) → Buf (Elt Ideal) ℓ)

/-- The reference's result, over its four arguments. -/
def REF (x : FVec Ideal S32768x1024 .f32) (ya : FVec Ideal S32768x1536 .bf16) (yb : FVec Ideal S32768x512 .bf16)
    (w : FVec Ideal S2x2048x1024 .f32) : FVec Ideal S32768x1024 .f32 :=
  addf x (Host.dotGeneral Cert.ReferenceOutIdeal.dot_S32768x2048_S2048x1024_S32768x1024_1_0_0_1_n_n none
    (concatenate Cert.ReferenceOutIdeal.S32768x2048 1 [⟨S32768x1536, (extf .f32 ya Cert.ReferenceOutIdeal.Gen.bitsLt_bf16_f32)⟩, ⟨S32768x512, (extf .f32 yb Cert.ReferenceOutIdeal.Gen.bitsLt_bf16_f32)⟩] Cert.ReferenceOutIdeal.Gen.concatenates_S32768x1536_S32768x512_S32768x2048_d1)
    (shapeCast _ (extractStridedSlice S1x2048x1024 ![0, 0, 0] w Cert.ReferenceOutIdeal.Gen.slices_S2x2048x1024_S1x2048x1024_0_0_0) Cert.ReferenceOutIdeal.Gen.shapeCasts_S1x2048x1024_S2048x1024))

/-- The block each window reads or writes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

theorem point (c : Dev nD) (t : Fin cfg0.N) (y) :
    k0_pay1 (iblk m c 0 t) (iblk m c 1 t) (iblk m c 3 t) (iblk m c 2 t) (iblk m c 4 t) y
    = REF (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay1, REF]
  rw [add_assoc]
  blk_point [iblk, V, idx t]

theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point m c t y

end Cert.KernelOutIdeal.Array

end
-- ==== Proof.In.Reference.lean ====
/- The reference of the normalized input projection, as a term over its arguments. -/
module

public import proofs.«01_k».proof.Proof.Gen.ReferenceInIdeal.Run
public import Idealize.ShloMosaic.Lib.Pipeline.ValueKit

@[expose] public section

noncomputable section

open Idealize.ShloMosaic Idealize.ShloMosaic.TcCoe Idealize.SL.Sem

namespace Cert.ReferenceInIdeal.Term

open Cert.ReferenceInIdeal Cert.ReferenceInIdeal.Gen

/-- The normalized rows. -/
def normed (x : FVec Ideal S32768x1024 .f32) (g : FVec Ideal S2x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] g slices_S2x1024_S1x1024_0_0) shapeCasts_S1x1024_S1024)))

/-- Their product with the weights. -/
def result (x : FVec Ideal S32768x1024 .f32) (g : FVec Ideal S2x1024 .f32) (w : FVec Ideal S1x1024x5120 .f32) : FVec Ideal S32768x5120 .bf16 :=
  truncf .bf16 (Host.dotGeneral dot_S32768x1024_S1024x5120_S32768x5120_1_0_0_1_n_n none (normed x g) (shapeCast _ w shapeCasts_S1x1024x5120_S1024x5120)) bitsLt_bf16_f32

end Cert.ReferenceInIdeal.Term

end
-- ==== Proof.In.Array.lean ====
/- What the normalized input projection leaves in its result array: the carried scratch holds the normalized rows of the
   row block from its first column block on, and each column block's product reads them. -/
module

public import proofs.«01_k».proof.Proof.Gen.KernelInIdeal.Value
public import proofs.«01_k».proof.Proof.In.Reference
public import proofs.«01_k».proof.Proof.Common
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInIdeal.Array

open Cert.KernelInIdeal Cert.KernelInIdeal.Gen
open Cert.ReferenceInIdeal.Term (normed result)

variable (m : (ℓ : Loc nD τ sig) → Buf (Elt Ideal) ℓ)

/-- The block each window reads or writes at a grid point. -/
theorem idx : ∀ t : Fin cfg0.N, win0_0.index t = ![t.val / 4, 0] ∧ win0_1.index t = ![0, 0] ∧ win0_2.index t = ![0, t.val % 4]
    ∧ win0_3.index t = ![t.val / 4, t.val % 4] :=
  (by decide +kernel : ∀ t : Fin grid0.N, _)

/-- At the first column block, the scratch is filled with the normalized rows of the row block. -/
theorem scratch_A (c : Dev nD) (t : Fin cfg0.N) (h0 : t.val % 4 = 0) (y : S1024x1024.Idx) (i : S32768x1024.Idx)
    (hi0 : (i 0 : ℕ) = t.val / 4 * 1024 + y 0) (hi1 : (i 1 : ℕ) = y 1) :
    (outsAt0 m c t.val t.isLt).2 y
      = normed (m ((c : Thread nD τ).loc main_arg0)) (m ((c : Thread nD τ).loc main_arg1)) i := by
  rw [outsAt0_A m c t h0]
  frame_out
  clear h0
  canon_tiles x h
  all_goals
    open_payloads
    pointwise [normed]
    blk_point [iblk, V, idx t]

/-- At a later column block, the scratch is kept. -/
theorem scratch_B (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

/-- At every grid point the scratch holds the normalized rows of the point's row block. -/
theorem scratch (c : Dev nD) : ∀ (n : ℕ) (hn : n < cfg0.N) (y : S1024x1024.Idx) (i : S32768x1024.Idx),
    (i 0 : ℕ) = n / 4 * 1024 + y 0 → (i 1 : ℕ) = y 1 →
    (outsAt0 m c n hn).2 y
      = normed (m ((c : Thread nD τ).loc main_arg0)) (m ((c : Thread nD τ).loc main_arg1)) i
  | 0, hn, y, i, hi0, hi1 => scratch_A m c ⟨0, hn⟩ rfl y i hi0 hi1
  | n + 1, hn, y, i, hi0, hi1 => by
    by_cases h0 : (n + 1) % 4 = 0
    · exact scratch_A m c ⟨n + 1, hn⟩ h0 y i hi0 hi1
    · rw [scratch_B m c ⟨n + 1, hn⟩ h0]
      exact scratch c n _ y i (by omega) hi1

/-- What every grid point stores: the product of the scratch with the point's weight block. -/
theorem out (c : Dev nD) (t : Fin cfg0.N) :
    (outsAt0 m c t.val t.isLt).1 = k0_pay3 (outsAt0 m c t.val t.isLt).2 (iblk m c 2 t) := by
  by_cases h0 : t.val % 4 = 0
  · rw [outsAt0_A m c t h0]
    frame_out
    rw [Cert.Common.load_whole _ _ _ (by decide)]
  · rw [outsAt0_B m c t h0]
    frame_out
    rw [read_unread_whole]
    rfl

/-- What a grid point stores at an index of its block is the reference's result where that index lies in the array. -/
theorem point (c : Dev nD) (t : Fin cfg0.N) (h : FVec Ideal S1024x1024 .bf16)
    (hh : ∀ (y : S1024x1024.Idx) (i : S32768x1024.Idx), (i 0 : ℕ) = t.val / 4 * 1024 + y 0 → (i 1 : ℕ) = y 1 →
      h y = normed (m ((c : Thread nD τ).loc main_arg0)) (m ((c : Thread nD τ).loc main_arg1)) i) (y) :
    k0_pay3 h (iblk m c 2 t) y
    = result (m ((c : Thread nD τ).loc main_arg0)) (m ((c : Thread nD τ).loc main_arg1)) (m ((c : Thread nD τ).loc main_arg2))
      (((cfg0.win 3).blk t).view.emb y) := by
  pointwise [k0_pay3, result]
  refine Finset.sum_congr rfl fun k _ => ?_
  refine congrArg₂ (· * ·) (hh _ _ ?_ ?_) ?_
  · blk_simp [idx t]
  · rfl
  · blk_point [iblk, V, idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out]
  exact point m c t _ (scratch m c t.val t.isLt) y

end Cert.KernelInIdeal.Array

end
-- ==== Proof.Combine.Reference.lean ====
/- The reference of the final combination, as a term over its arguments. -/
module

public import proofs.«01_k».proof.Proof.Gen.ReferenceCombineIdeal.Run
public import Idealize.ShloMosaic.Lib.Pipeline.ValueKit

@[expose] public section

noncomputable section

open Idealize.ShloMosaic Idealize.ShloMosaic.TcCoe Idealize.SL.Sem

namespace Cert.ReferenceCombineIdeal.Term

open Cert.ReferenceCombineIdeal Cert.ReferenceCombineIdeal.Gen

/-- The residual plus the two gated expert rows. -/
def total (x y1 y2 : FVec Ideal S32768x1024 .f32) (g1 g2 : FVec Ideal S32768x1 .f32) : FVec Ideal S32768x1024 .f32 :=
  addf x (Host.dotGeneral dot_S32768x2_S32768x2x1024_S32768x1024_1_1_n_2_0_0 none (concatenate S32768x2 1 [⟨S32768x1, g1⟩, ⟨S32768x1, g2⟩] concatenates_S32768x1_S32768x1_S32768x2_d1) (concatenate S32768x2x1024 1 [⟨S32768x1x1024, (broadcastInDim S32768x1x1024 ![0, 2] bcast_S32768x1024_S32768x1x1024_0_2 y1)⟩, ⟨S32768x1x1024, (broadcastInDim S32768x1x1024 ![0, 2] bcast_S32768x1024_S32768x1x1024_0_2 y2)⟩] concatenates_S32768x1x1024_S32768x1x1024_S32768x2x1024_d1))

/-- The normalized sum. -/
def result (x y1 y2 : FVec Ideal S32768x1024 .f32) (g1 g2 : FVec Ideal S32768x1 .f32) (g : FVec Ideal S1024 .f32) : FVec Ideal S32768x1024 .f32 :=
  mulf (mulf (total x y1 y2 g1 g2) (broadcastInDim S32768x1024 ![0, 1] bcast_S32768x1_S32768x1024_0_1 (Host.rsqrt (addf (Host.divf (broadcastInDim S32768x1 ![0] bcast_S32768_S32768x1_0 (Host.reduceAdd (mulf (total x y1 y2 g1 g2) (total x y1 y2 g1 g2)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

end Cert.ReferenceCombineIdeal.Term

end
-- ==== Proof.Combine.Array.lean ====
/- What the final combination leaves in its result array: at every row the reference's normalized sum. -/
module

public import proofs.«01_k».proof.Proof.Gen.KernelCombineIdeal.Value
public import proofs.«01_k».proof.Proof.Combine.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCombineIdeal.Array

open Cert.KernelCombineIdeal Cert.KernelCombineIdeal.Gen
open Cert.ReferenceCombineIdeal.Term (total result)

variable (m : (ℓ : Loc nD τ sig) → Buf (Elt Ideal) ℓ)

/-- The block each window reads or writes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

/-- What a grid point computes at an index of its block is the reference's result where that index lies in the array. -/
theorem point (c : Dev nD) (t : Fin cfg0.N) (y) :
    k0_pay1 (iblk m c 0 t) (iblk m c 3 t) (iblk m c 1 t) (iblk m c 4 t) (iblk m c 2 t) (iblk m c 5 t) y
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (((cfg0.win 6).blk t).view.emb y) := by
  pointwise [k0_pay1, result, total]
  simp only [Fintype.sum_unique, Fin.default_eq_zero, ← add_assoc]
  blk_point [iblk, V, idx t]

/-- The result array after the run. -/
theorem final (c : Dev nD) : (dats m 0 c).arrAt 6 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.KernelCombineIdeal.Array

end
-- ==== Proof.InSsd.Reference.lean ====
/- The reference of the normalized input projection of the second layer, as a term over its arguments. -/
module

public import proofs.«01_k».proof.Proof.Gen.ReferenceInSsdIdeal.Run
public import Idealize.ShloMosaic.Lib.Pipeline.ValueKit

@[expose] public section

noncomputable section

open Idealize.ShloMosaic Idealize.ShloMosaic.TcCoe Idealize.SL.Sem

namespace Cert.ReferenceInSsdIdeal.Term

open Cert.ReferenceInSsdIdeal Cert.ReferenceInSsdIdeal.Gen

/-- The normalized rows. -/
def normed (x : FVec Ideal S32768x1024 .f32) (g : FVec Ideal S2x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![1, 0] g slices_S2x1024_S1x1024_1_0) shapeCasts_S1x1024_S1024)))

/-- Their product with the weights, -/
def proj (x : FVec Ideal S32768x1024 .f32) (g : FVec Ideal S2x1024 .f32) (w : FVec Ideal S1x1024x4632 .f32) : FVec Ideal S32768x4632 .f32 :=
  Host.dotGeneral dot_S32768x1024_S1024x4632_S32768x4632_1_0_0_1_n_n none (normed x g) (shapeCast _ w shapeCasts_S1x1024x4632_S1024x4632)

/-- without the columns of the step sizes. -/
def result (x : FVec Ideal S32768x1024 .f32) (g : FVec Ideal S2x1024 .f32) (w : FVec Ideal S1x1024x4632 .f32) : FVec Ideal S32768x4608 .bf16 :=
  truncf .bf16 (concatenate S32768x4608 1 [⟨S32768x4096, (extractStridedSlice S32768x4096 ![0, 0] (proj x g w) slices_S32768x4632_S32768x4096_0_0)⟩, ⟨S32768x512, (extractStridedSlice S32768x512 ![0, 4120] (proj x g w) slices_S32768x4632_S32768x512_0_4120)⟩] concatenates_S32768x4096_S32768x512_S32768x4608_d1) bitsLt_bf16_f32

end Cert.ReferenceInSsdIdeal.Term

end
-- ==== Proof.InSsd.Array.lean ====
/- What the normalized input projection of the second layer leaves in its result array: the carried scratch holds the normalized rows of the
   row block from its first column block on, and each column block's product reads them. -/
module

public import proofs.«01_k».proof.Proof.Gen.KernelInSsdIdeal.Value
public import proofs.«01_k».proof.Proof.InSsd.Reference
public import proofs.«01_k».proof.Proof.Common
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInSsdIdeal.Array

open Cert.KernelInSsdIdeal Cert.KernelInSsdIdeal.Gen
open Cert.ReferenceInSsdIdeal.Term (normed proj result)

variable (m : (ℓ : Loc nD τ sig) → Buf (Elt Ideal) ℓ)

/-- The block each window reads or writes at a grid point. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- At the first column block, the scratch is filled with the normalized rows of the row block. -/
theorem scratch_A (c : Dev nD) (t : Fin cfg0.N) (h0 : t.val % 3 = 0) (y : S1024x1024.Idx) (i : S32768x1024.Idx)
    (hi0 : (i 0 : ℕ) = t.val / 3 * 1024 + y 0) (hi1 : (i 1 : ℕ) = y 1) :
    (outsAt0 m c t.val t.isLt).2 y
      = normed (m ((c : Thread nD τ).loc main_arg0)) (m ((c : Thread nD τ).loc main_arg1)) i := by
  rw [outsAt0_A m c t h0]
  frame_out
  clear h0
  canon_tiles x h
  all_goals
    open_payloads
    pointwise [normed]
    blk_point [iblk, V, idx t]

/-- At a later column block, the scratch is kept. -/
theorem scratch_B (c : Dev nD) (t : Fin cfg0.N) (h0 : ¬ t.val % 3 = 0) :
    (outsAt0 m c t.val t.isLt).2 = (outsAt0 m c (t.val - 1) (Nat.lt_of_le_of_lt (Nat.sub_le _ _) t.isLt)).2 := by
  rw [outsAt0_B m c t h0]
  rfl

/-- At every grid point the scratch holds the normalized rows of the point's row block. -/
theorem scratch (c : Dev nD) : ∀ (n : ℕ) (hn : n < cfg0.N) (y : S1024x1024.Idx) (i : S32768x1024.Idx),
    (i 0 : ℕ) = n / 3 * 1024 + y 0 → (i 1 : ℕ) = y 1 →
    (outsAt0 m c n hn).2 y
      = normed (m ((c : Thread nD τ).loc main_arg0)) (m ((c : Thread nD τ).loc main_arg1)) i
  | 0, hn, y, i, hi0, hi1 => scratch_A m c ⟨0, hn⟩ rfl y i hi0 hi1
  | n + 1, hn, y, i, hi0, hi1 => by
    by_cases h0 : (n + 1) % 3 = 0
    · exact scratch_A m c ⟨n + 1, hn⟩ h0 y i hi0 hi1
    · rw [scratch_B m c ⟨n + 1, hn⟩ h0]
      exact scratch c n _ y i (by omega) hi1

/-- What every grid point stores: the product of the scratch with the point's weight block. -/
theorem out (c : Dev nD) (t : Fin cfg0.N) :
    (outsAt0 m c t.val t.isLt).1 = k0_pay3 (outsAt0 m c t.val t.isLt).2 (iblk m c 2 t) := by
  by_cases h0 : t.val % 3 = 0
  · rw [outsAt0_A m c t h0]
    frame_out
    rw [Cert.Common.load_whole _ _ _ (by decide)]
  · rw [outsAt0_B m c t h0]
    frame_out
    rw [read_unread_whole]
    rfl

/-- What a grid point stores at an index of its block is the reference's result where that index lies in the array. -/
theorem point (c : Dev nD) (t : Fin cfg0.N) (h : FVec Ideal S1024x1024 .bf16)
    (hh : ∀ (y : S1024x1024.Idx) (i : S32768x1024.Idx), (i 0 : ℕ) = t.val / 3 * 1024 + y 0 → (i 1 : ℕ) = y 1 →
      h y = normed (m ((c : Thread nD τ).loc main_arg0)) (m ((c : Thread nD τ).loc main_arg1)) i) (y) :
    k0_pay3 h (iblk m c 2 t) y
    = result (m ((c : Thread nD τ).loc main_arg0)) (m ((c : Thread nD τ).loc main_arg1)) (m ((c : Thread nD τ).loc main_arg2))
      (((cfg0.win 3).blk t).view.emb y) := by
  pointwise [k0_pay3, result, proj]
  split
  all_goals
    rename_i hcol
    blk_simp [idx t] at hcol
    refine Finset.sum_congr rfl fun k _ => ?_
    refine congrArg₂ (· * ·) (hh _ _ ?_ ?_) ?_
    · blk_simp [idx t]
    · rfl
    · blk_simp [iblk, idx t]
      entry_read
      pointwise
      split
      all_goals
        rename_i hside
        blk_simp [idx t] at hside
        first
          | exact absurd hcol hside
          | exact absurd hside hcol
          | blk_ext [idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out]
  exact point m c t _ (scratch m c t.val t.isLt) y

end Cert.KernelInSsdIdeal.Array

end
-- ==== Proof.Kv.Reference.lean ====
/- The reference of the normalized projection of the memory, as a term over its arguments. -/
module

public import proofs.«01_k».proof.Proof.Gen.ReferenceKvIdeal.Run
public import Idealize.ShloMosaic.Lib.Pipeline.ValueKit

@[expose] public section

noncomputable section

open Idealize.ShloMosaic Idealize.ShloMosaic.TcCoe Idealize.SL.Sem

namespace Cert.ReferenceKvIdeal.Term

open Cert.ReferenceKvIdeal Cert.ReferenceKvIdeal.Gen

/-- The normalized rows. -/
def normed (x : FVec Ideal S4096x1024 .f32) (g : FVec Ideal S2x1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![0, 0] g slices_S2x1024_S1x1024_0_0) shapeCasts_S1x1024_S1024)))

/-- Their product with the weights. -/
def result (x : FVec Ideal S4096x1024 .f32) (g : FVec Ideal S2x1024 .f32) (w : FVec Ideal S2x1024x1024 .f32) : FVec Ideal S4096x1024 .bf16 :=
  truncf .bf16 (Host.dotGeneral dot_S4096x1024_S1024x1024_S4096x1024_1_0_0_1_n_n none (normed x g) (shapeCast _ (extractStridedSlice S1x1024x1024 ![0, 0, 0] w slices_S2x1024x1024_S1x1024x1024_0_0_0) shapeCasts_S1x1024x1024_S1024x1024)) bitsLt_bf16_f32

end Cert.ReferenceKvIdeal.Term

end
-- ==== Proof.Kv.Array.lean ====
/- What the normalized projection of the memory leaves in its result array: each row block is normalized into the scratch
   and multiplied with the whole weights. -/
module

public import proofs.«01_k».proof.Proof.Gen.KernelKvIdeal.Value
public import proofs.«01_k».proof.Proof.Kv.Reference
public import proofs.«01_k».proof.Proof.Common
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelKvIdeal.Array

open Cert.KernelKvIdeal Cert.KernelKvIdeal.Gen
open Cert.ReferenceKvIdeal.Term (normed result)

variable (m : (ℓ : Loc nD τ sig) → Buf (Elt Ideal) ℓ)

/-- The block each window reads or writes at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What a grid point stores at an index of its block is the reference's result where that index lies in the array. -/
theorem point (c : Dev nD) (t : Fin cfg0.N) (h : FVec Ideal S1024x1024 .bf16)
    (hh : ∀ (y : S1024x1024.Idx) (i : S4096x1024.Idx), (i 0 : ℕ) = t.val * 1024 + y 0 → (i 1 : ℕ) = y 1 →
      h y = normed (m ((c : Thread nD τ).loc main_arg0)) (m ((c : Thread nD τ).loc main_arg1)) i) (y) :
    k0_pay3 h (iblk m c 2 t) y
    = result (m ((c : Thread nD τ).loc main_arg0)) (m ((c : Thread nD τ).loc main_arg1)) (m ((c : Thread nD τ).loc main_arg2))
      (((cfg0.win 3).blk t).view.emb y) := by
  pointwise [k0_pay3, result]
  refine Finset.sum_congr rfl fun k _ => ?_
  refine congrArg₂ (· * ·) (hh _ _ ?_ ?_) ?_
  · blk_simp [idx t]
  · rfl
  · blk_point [iblk, V, idx t]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  simp only [outsAt0]
  frame_out
  rw [Cert.Common.load_whole _ _ _ (by decide)]
  refine point m c t _ (fun y i hi0 hi1 => ?_) y
  canon_tiles x h
  all_goals
    open_payloads
    pointwise [normed]
    blk_point [iblk, V, idx t]

end Cert.KernelKvIdeal.Array

end
-- ==== Proof.Mem.Pieces.lean ====
/- What the loop over the query chunks leaves in a block of the memory attention. -/
module

public import proofs.«01_k».proof.Proof.Gen.KernelMemIdeal.Value
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMemIdeal.Pieces

open Cert.KernelMemIdeal Cert.KernelMemIdeal.Gen

variable (𝒱 : Variants) (c : Dev nD) (bd : Option 𝒱.V) (i : grid0.Coords) (arg2 : Memref sig .tc .vmem S1x2048x128 .bf16) (harg2 : arg2.IsWhole)
  (arg3 : Memref sig .tc .vmem S1x256x128 .bf16) (harg3 : arg3.IsWhole) (arg4 : Memref sig .tc .vmem S1x256x128 .bf16) (harg4 : arg4.IsWhole)
  (arg5 : Memref sig .tc .vmem S1x2048x128 .bf16) (harg5 : arg5.IsWhole) (v0 v2 : Vec Ideal S1x256x128 .bf16) (x : Vec Ideal S1x2048x128 .bf16)

/-- The rows a trip works on. -/
abbrev rows (k : Fin k0_t1_loop.trips) : Rect S1x2048x128 := Rect.unit (k0_off1 k) S1x256x128.size (k0_off1_inb k)

/-- The queries a trip reads. -/
abbrev chunk (k : Fin k0_t1_loop.trips) : Vec Ideal S1x256x128 .bf16 := fun j => x ((rows k).emb j)

/-- A trip stores one piece: its rows of the attention of its queries. -/
theorem trip (k : Fin k0_t1_loop.trips) :
    tripL_k0_t1 (F := Ideal) 𝒱 c bd i arg2 harg2 arg3 harg3 arg4 harg4 arg5 harg5 v0 v2 (harg2.unread x) k = [⟨rows k, k0_pay1 v0 v2 (chunk x k)⟩] := by
  have h : View.readAt (Elt Ideal) arg2.view (rows k).toLoadRect (harg2.unread x) = chunk x k :=
    funext fun j => congrFun (harg2.read_unread x) _
  rw [← h]
  unfold tripL_k0_t1 trip_k0_t1
  rfl

/-- Where every trip's piece is a block of one array, so is every piece of the trips before the `n`-th. -/
theorem before (G : Vec Ideal S1x2048x128 .bf16) (hG : ∀ k j, k0_pay1 v0 v2 (chunk x k) j = G ((rows k).emb j)) :
    ∀ n ≤ k0_t1_loop.trips, ∀ p ∈ pb_k0_t1 (F := Ideal) 𝒱 c bd i arg2 harg2 arg3 harg3 arg4 harg4 arg5 harg5 v0 v2 (harg2.unread x) n, ∀ j : p.1.shape.Idx, p.2 j = G (p.1.emb j)
  | 0, _, p, hp, _ => by simp [pb_k0_t1] at hp
  | n + 1, hn, p, hp, j => by
    rw [pb_k0_t1_succ 𝒱 c bd i arg2 harg2 arg3 harg3 arg4 harg4 arg5 harg5 v0 v2 (harg2.unread x) ⟨n, hn⟩, trip, List.mem_append, List.mem_singleton] at hp
    rcases hp with rfl | hp
    · exact hG ⟨n, hn⟩ j
    · exact before G hG n (by omega) p hp j

omit 𝒱 c bd i arg2 harg2 arg3 harg3 arg4 harg4 arg5 harg5 v0 v2 x in
/-- What the loop leaves in a point's block: the array that every trip's piece is a block of. -/
theorem out (m : (ℓ : Loc nD τ sig) → Buf (Elt Ideal) ℓ) (c : Dev nD) (t : Fin cfg0.N) (G : Vec Ideal S1x2048x128 .bf16)
    (hG : ∀ k j, k0_pay1 (iblk m c 1 t) (iblk m c 2 t) (chunk (iblk m c 0 t) k) j = G ((rows k).emb j)) : outsAt0 m c t = G := by
  simp only [outsAt0]
  frame_out
  funext y
  refine View.canon_apply_of_pieces G _ (before _ _ _ _ _ _ _ _ _ _ _ _ _ _ _ G hG _ le_rfl) y ?_
  have h := cover0_A_3 c (grid0.coords t) (ms0_0 t) (hs0_0 t) (ms0_1 t) (hs0_1 t) (ms0_2 t) (hs0_2 t) (ms0_3 t) (hs0_3 t) (iblk m c 0 t) (iblk m c 1 t) (iblk m c 2 t) y
  unfold kernelRun0_A at h
  frame_out at h
  exact h

end Cert.KernelMemIdeal.Pieces

end
-- ==== Proof.Mem.Reference.lean ====
/- The reference of the memory attention, as a term over its arguments. -/
module

public import proofs.«01_k».proof.Proof.Gen.ReferenceMemIdeal.Run
public import Idealize.ShloMosaic.Lib.Pipeline.ValueKit

@[expose] public section

set_option maxRecDepth 16384

noncomputable section

open Idealize.ShloMosaic Idealize.ShloMosaic.TcCoe Idealize.SL.Sem

namespace Cert.ReferenceMemIdeal.Term

open Cert.ReferenceMemIdeal Cert.ReferenceMemIdeal.Gen

/-- The scaled scores. -/
def score (p : FVec Ideal S16x2048x5120 .bf16) (kv : FVec Ideal S16x256x1024 .bf16) : FVec Ideal S16x4x2048x256 .f32 :=
  mulf (Host.dotGeneral dot_S16x2048x4x128_S16x256x4x128_S16x4x2048x256_3_3_1_1_02_02 none (shapeCast _ (extf .f32 (extractStridedSlice S16x2048x512 ![0, 0, 4608] p slices_S16x2048x5120_S16x2048x512_0_0_4608) bitsLt_bf16_f32) shapeCasts_S16x2048x512_S16x2048x4x128) (shapeCast _ (extractStridedSlice S16x256x512 ![0, 0, 0] (extf .f32 kv bitsLt_bf16_f32) slices_S16x256x1024_S16x256x512_0_0_0) shapeCasts_S16x256x512_S16x256x4x128)) (broadcastInDim S16x4x2048x256 ![] bcast_S_S16x4x2048x256 (constant S_ .f32 0x3DB504F3#32))

/-- The greatest score of each row. -/
def top (s : FVec Ideal S16x4x2048x256 .f32) : FVec Ideal S16x4x2048 .f32 :=
  Host.reduce FloatOps.maximumf s (constant S_ .f32 0xFF800000#32) reducesTo_S16x4x2048x256_S16x4x2048_d3 h_S_

/-- The exponentials of the scores less their row maximum. -/
def weight (s : FVec Ideal S16x4x2048x256 .f32) : FVec Ideal S16x4x2048x256 .f32 :=
  Host.exp (subf s (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) (top s)))))

/-- The attention rows. -/
def result (p : FVec Ideal S16x2048x5120 .bf16) (kv : FVec Ideal S16x256x1024 .bf16) : FVec Ideal S16x2048x512 .bf16 :=
  truncf .bf16 (shapeCast _ (transpose S16x2048x4x128 [0, 3, 1, 2] (Host.dotGeneral dot_S16x256x4x128_S16x4x2048x256_S16x4x128x2048_1_3_3_2_02_01 none (shapeCast _ (extractStridedSlice S16x256x512 ![0, 0, 512] (extf .f32 kv bitsLt_bf16_f32) slices_S16x256x1024_S16x256x512_0_0_512) shapeCasts_S16x256x512_S16x256x4x128) (Host.divf (weight (score p kv)) (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd (weight (score p kv)) (constant S_ .f32 0x00000000#32) reducesTo_S16x4x2048x256_S16x4x2048_d3 h_S_))))) transposes_S16x4x128x2048_S16x2048x4x128_0_3_1_2) shapeCasts_S16x2048x4x128_S16x2048x512) bitsLt_bf16_f32

/-- The maximum over the last axis, at an index. -/
theorem max_last {n0 n1 n2 n3 : ℕ} (s : (⟨4, ![n0, n1, n2, n3]⟩ : Shape).Idx → Ideal .f32) (b : BitVec 32)
    (h : (⟨4, ![n0, n1, n2, n3]⟩ : Shape).ReducesTo [3] ⟨3, ![n0, n1, n2]⟩) (hu : 0 < S_.numel) (x : Fin n0) (y : Fin n1) (z : Fin n2) :
    Host.reduce FloatOps.maximumf s (constant S_ .f32 b) h hu (ix3 x y z)
    = Finset.univ.fold max (Ideal.ofBits .f32 b) fun k : Fin n3 => s (ix4 x y z k) := by
  rw [Host.reduce_eq_fold, h.fold_fiber_r4_a3]
  rfl

/-- The greatest score of a row, at an index. -/
theorem top_apply (s : FVec Ideal S16x4x2048x256 .f32) (x : Fin 16) (y : Fin 4) (z : Fin 2048) :
    top s (ix3 x y z) = Finset.univ.fold max (Ideal.ofBits .f32 0xFF800000#32) fun k : Fin 256 => s (ix4 x y z k) :=
  max_last _ _ _ _ x y z

/-- A row statistic spread over the scores, at an index. -/
theorem spread (M : FVec Ideal S16x4x2048 .f32) (j : S16x4x2048x256.Idx) :
    broadcastInDim S16x4x2048x256 ![0, 1, 2, 3] bcast_S16x4x2048x1_S16x4x2048x256_0_1_2_3 (broadcastInDim S16x4x2048x1 ![0, 1, 2] bcast_S16x4x2048_S16x4x2048x1_0_1_2 M) j
    = M (ix3 (j 0) (j 1) (j 2)) := by
  pointwise

/-- The maximum with a constant, at an index. -/
theorem floor_apply (M : FVec Ideal S16x4x2048 .f32) (j : S16x4x2048.Idx) :
    maximumf (broadcastInDim S16x4x2048 ![] bcast_S_S16x4x2048 (constant S_ .f32 0xFF800000#32)) M j = max (Ideal.ofBits .f32 0xFF800000#32) (M j) := by
  pointwise

/-- The exponentials of differences, at an index. -/
theorem exp_sub_apply (M N : FVec Ideal S16x4x2048x256 .f32) (j : S16x4x2048x256.Idx) : Host.exp (subf M N) j = Ideal.exp (M j - N j) := rfl

/-- A weight at an index: the exponential of the score less the maximum of its row. -/
theorem weight_apply (s : FVec Ideal S16x4x2048x256 .f32) (j : S16x4x2048x256.Idx) :
    weight s j = Ideal.exp (s j - max (Ideal.ofBits .f32 0xFF800000#32) (top s (ix3 (j 0) (j 1) (j 2)))) := by
  unfold weight
  rw [exp_sub_apply, spread, floor_apply]

/-- A score at an index. -/
theorem score_apply (p : FVec Ideal S16x2048x5120 .bf16) (kv : FVec Ideal S16x256x1024 .bf16) (x : Fin 16) (y : Fin 4) (z : Fin 2048) (k : Fin 256) :
    score p kv (ix4 x y z k) = (∑ d : Fin 128, p (ix3 x z ⟨4608 + (y.val * 128 + d.val), by omega⟩) * kv (ix3 x k ⟨y.val * 128 + d.val, by omega⟩))
      * Ideal.ofBits .f32 0x3DB504F3#32 := by
  pointwise [score]

/-- An attention row at an index: the softmax average of the values. -/
theorem result_apply (p : FVec Ideal S16x2048x5120 .bf16) (kv : FVec Ideal S16x256x1024 .bf16) (j : S16x2048x512.Idx) :
    result p kv j = ∑ m : Fin 256, kv (ix3 (j 0) m ⟨512 + (j 2).val, by have : (j 2).val < 512 := (j 2).isLt; omega⟩)
      * Ideal.div (weight (score p kv) (ix4 (j 0) ⟨(j 2).val / 128, by have : (j 2).val < 512 := (j 2).isLt; omega⟩ (j 1) m))
        (∑ m : Fin 256, weight (score p kv) (ix4 (j 0) ⟨(j 2).val / 128, by have : (j 2).val < 512 := (j 2).isLt; omega⟩ (j 1) m)) := by
  unfold result
  generalize weight (score p kv) = w
  pointwise

end Cert.ReferenceMemIdeal.Term

end
-- ==== Proof.Mem.Softmax.lean ====
/- The softmax average: dividing the weighted sum by the sum of the weights is weighting by the divided weights, for real scores. -/
module

public import Idealize.ShloMosaic.Lib.Pipeline.ValueKit

@[expose] public section

noncomputable section

open Idealize.ShloMosaic Idealize.SL.Sem

namespace Cert.Softmax

/-- A nonnegative real factor moves into a sum of extended reals. -/
theorem sum_mul_coe {ι : Type} (s : Finset ι) (f : ι → EReal) (r : ℝ) (hr : 0 ≤ r) : (∑ i ∈ s, f i) * (r : EReal) = ∑ i ∈ s, f i * (r : EReal) := by
  induction s using Finset.cons_induction with
  | empty => simp
  | cons a s ha ih =>
    rw [Finset.sum_cons, Finset.sum_cons, ← ih]
    exact EReal.right_distrib_of_nonneg_of_ne_top (by exact_mod_cast hr) (EReal.coe_ne_top r) _ _

/-- A sum of real numbers is the same sum among the extended reals. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The word of minus infinity. -/
theorem bottom : Ideal.ofBits .f32 0xFF800000#32 = ⊥ := by
  simp [Ideal.ofBits, Ideal.ieee]

/-- The maximum of finitely many real numbers, at least one, is real. -/
theorem fold_real {n : ℕ} [NeZero n] (s : Fin n → EReal) (hs : ∀ m, ∃ r : ℝ, s m = r) : ∃ r : ℝ, Finset.univ.fold max ⊥ s = r := by
  have key : ∀ t : Finset (Fin n), t.fold max ⊥ s = ⊥ ∧ t = ∅ ∨ ∃ r : ℝ, t.fold max ⊥ s = r := by
    intro t
    induction t using Finset.cons_induction with
    | empty => exact .inl ⟨rfl, rfl⟩
    | cons a t ha ih =>
      refine .inr ?_
      rw [Finset.fold_cons]
      obtain ⟨r, hr⟩ := hs a
      rcases ih with ⟨h, _⟩ | ⟨q, hq⟩
      · exact ⟨r, by rw [h, hr]; simp⟩
      · exact ⟨max r q, by rw [hq, hr]; rfl⟩
  rcases key Finset.univ with ⟨_, h⟩ | h
  · exact absurd h Finset.univ_nonempty.ne_empty
  · exact h

/-- Over real scores the quotient of the weighted sum by the sum of the weights is the sum weighted by the quotients. -/
theorem average {n : ℕ} [NeZero n] (s v : Fin n → EReal) (b : EReal) (hb : b = ⊥) (hs : ∀ m, ∃ r : ℝ, s m = r) :
    Ideal.div (∑ m, v m * Ideal.exp (s m - Finset.univ.fold max b s)) (∑ m, Ideal.exp (s m - Finset.univ.fold max b s))
    = ∑ m, v m * Ideal.div (Ideal.exp (s m - max b (Finset.univ.fold max b s))) (∑ m, Ideal.exp (s m - max b (Finset.univ.fold max b s))) := by
  subst hb
  obtain ⟨M, hM⟩ := fold_real s hs
  rw [hM, max_eq_right bot_le]
  choose r hr using hs
  have hexp : ∀ m, Ideal.exp (s m - M) = ((Real.exp (r m - M) : ℝ) : EReal) := fun m => by
    rw [hr, ← EReal.coe_sub, Ideal.exp_coe]
  simp only [hexp]
  rw [← coe_sum]
  have hpos : 0 < ∑ m, Real.exp (r m - M) := Finset.sum_pos (fun m _ => Real.exp_pos _) Finset.univ_nonempty
  rw [Ideal.div_coe hpos.ne', sum_mul_coe _ _ _ (by positivity)]
  refine Finset.sum_congr rfl fun m _ => ?_
  rw [Ideal.div_coe hpos.ne', mul_assoc]

/-- A finite sum of products of real numbers, scaled by a real number, is real. -/
theorem score_real {n : ℕ} (p k : Fin n → EReal) (c : EReal) (hp : ∀ d, ∃ r : ℝ, p d = r) (hk : ∀ d, ∃ r : ℝ, k d = r) (hc : ∃ r : ℝ, c = r) :
    ∃ r : ℝ, (∑ d, p d * k d) * c = r := by
  choose p' hp' using hp
  choose k' hk' using hk
  obtain ⟨c', rfl⟩ := hc
  refine ⟨(∑ d, p' d * k' d) * c', ?_⟩
  rw [EReal.coe_mul, coe_sum]
  simp only [hp', hk', EReal.coe_mul]

/-- The scale of the scores is a real number. -/
theorem scale_real : ∃ r : ℝ, Ideal.ofBits .f32 0x3DB504F3#32 = r := by
  refine ⟨_, by simp [Ideal.ofBits, Ideal.ieee]; rfl⟩

/-- An extended real whose absolute value is below infinity is real. -/
theorem real_of_abs (x : EReal) (h : max x (-x) < ⊤) : ∃ r : ℝ, x = r := by
  induction x with
  | bot => simp at h
  | top => simp at h
  | coe r => exact ⟨r, rfl⟩

end Cert.Softmax

end
-- ==== Proof.Mem.Finite.lean ====
/- What the precondition says of the queries and the keys of the memory attention: each is a real number. -/
module

public import proofs.«01_k».proof.Pre_finite_qk
public import proofs.«01_k».proof.Proof.Mem.Softmax
public import Idealize.ShloMosaic.Lib.Pipeline.Value
public import Idealize.ShloMosaic.Lib.Pipeline.ValueKit

@[expose] public section

noncomputable section

namespace Cert.Pre_finite_qk

open Idealize.ShloMosaic

/-- The side conditions of the predicate's operations. -/
theorem facts : Facts where
  slices_S16x2048x5120_S16x2048x512_0_0_4608 := by decide
  slices_S16x256x1024_S16x256x512_0_0_0 := by decide
  concatenates_S16x2048x512_S16x256x512_S16x2304x512_d1 := by decide
  bitsLt_bf16_f32 := by decide
  bcast_S_S16x2304x512 := by decide

/-- The word of plus infinity. -/
theorem infinity : Ideal.ofBits .f32 0x7F800000#32 = ⊤ := by
  simp [Ideal.ofBits, Ideal.ieee]

/-- A value whose absolute value compares below plus infinity is real. -/
theorem real_of_cmp (x : EReal) (h : Ideal.cmp .olt (max x (-x)) (Ideal.ofBits .f32 0x7F800000#32) = 1#1) : ∃ r : ℝ, x = r := by
  rw [infinity] at h
  refine Cert.Softmax.real_of_abs x ?_
  by_contra hn
  simp [Ideal.cmp, hn] at h

variable [Facts] (p : FVec Ideal S16x2048x5120 .bf16) (kv : FVec Ideal S16x256x1024 .bf16)

/-- Where the predicate is all ones, every query is real. -/
theorem query (h : fn p kv = fun _ => 1#1) (b : Fin 16) (r : Fin 2048) (d : Fin 512) :
    ∃ q : ℝ, p (ix3 b r ⟨4608 + d.val, by omega⟩) = q := by
  refine real_of_cmp _ ?_
  refine Eq.trans ?_ (congrFun h (ix3 b ⟨r.val, by omega⟩ d))
  have c := concatenate_pair_apply_left 1 (extractStridedSlice S16x2048x512 ![0, 0, 4608] p Facts.slices_S16x2048x5120_S16x2048x512_0_0_4608)
    (extractStridedSlice S16x256x512 ![0, 0, 0] kv Facts.slices_S16x256x1024_S16x256x512_0_0_0) Facts.concatenates_S16x2048x512_S16x256x512_S16x2304x512_d1
    (ix3 b ⟨r.val, by omega⟩ d) rfl (ix3 b r d) (fun a => by fin_cases a <;> rfl)
  have s : extractStridedSlice S16x2048x512 ![0, 0, 4608] p Facts.slices_S16x2048x5120_S16x2048x512_0_0_4608 (ix3 b r d)
      = p (ix3 b r ⟨4608 + d.val, by omega⟩) := by pointwise
  rw [← s, ← c]
  rfl

/-- Where the predicate is all ones, every key is real. -/
theorem key (h : fn p kv = fun _ => 1#1) (b : Fin 16) (r : Fin 256) (d : Fin 512) :
    ∃ q : ℝ, kv (ix3 b r ⟨d.val, by omega⟩) = q := by
  refine real_of_cmp _ ?_
  refine Eq.trans ?_ (congrFun h (ix3 b ⟨2048 + r.val, by omega⟩ d))
  have c := concatenate_pair_apply_right 1 (extractStridedSlice S16x2048x512 ![0, 0, 4608] p Facts.slices_S16x2048x5120_S16x2048x512_0_0_4608)
    (extractStridedSlice S16x256x512 ![0, 0, 0] kv Facts.slices_S16x256x1024_S16x256x512_0_0_0) Facts.concatenates_S16x2048x512_S16x256x512_S16x2304x512_d1
    (ix3 b ⟨2048 + r.val, by omega⟩ d) rfl rfl (ix3 b r d) (fun a ha => by fin_cases a <;> first | rfl | exact absurd rfl ha) (Nat.add_comm _ _)
  have s : extractStridedSlice S16x256x512 ![0, 0, 0] kv Facts.slices_S16x256x1024_S16x256x512_0_0_0 (ix3 b r d)
      = kv (ix3 b r ⟨d.val, by omega⟩) := by pointwise
  rw [← s, ← c]
  rfl

end Cert.Pre_finite_qk

end
-- ==== Proof.Mem.Array.lean ====
/- What the memory attention leaves in its result array: the reference's rows, where the queries and the keys are real. -/
module

public import proofs.«01_k».proof.Proof.Mem.Pieces
public import proofs.«01_k».proof.Proof.Mem.Reference
public import proofs.«01_k».proof.Proof.Mem.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMemIdeal.Array

open Cert.KernelMemIdeal Cert.KernelMemIdeal.Gen Cert.KernelMemIdeal.Pieces
open Cert.ReferenceMemIdeal.Term (score weight result score_apply weight_apply top_apply result_apply)

variable (m : (ℓ : Loc nD τ sig) → Buf (Elt Ideal) ℓ)

/-- The block each window reads or writes at a grid point. -/
theorem idx : ∀ t : Fin cfg0.N, win0_0.index t = ![t.val / 4, 0, 36 + t.val % 4] ∧ win0_1.index t = ![t.val / 4, 0, t.val % 4]
    ∧ win0_2.index t = ![t.val / 4, 0, 4 + t.val % 4] ∧ win0_3.index t = ![t.val / 4, 0, t.val % 4] :=
  (by decide +kernel : ∀ t : Fin grid0.N, _)

/-- The first row of a trip. -/
theorem off : ∀ k : Fin k0_t1_loop.trips, k0_off1 k = ![0, 256 * k.val, 0] := by decide +kernel

/-- What a trip stores, at an index, over the scores of that index's row. -/
theorem pay (v0 v2 v11 : Vec Ideal S1x256x128 .bf16) (x : S1x256x128.Idx) (s : Fin 256 → EReal)
    (hs : ∀ n, (∑ d : Fin 128, v0 (ix3 0 n d) * v11 (ix3 0 (x 1) d)) * Ideal.ofBits .f32 0x3DB504F3#32 = s n) :
    k0_pay1 v0 v2 v11 x = Ideal.div (∑ n : Fin 256, v2 (ix3 0 n (x 2)) * Ideal.exp (s n - Finset.univ.fold max (Ideal.ofBits .f32 0xFF800000#32) s))
      (∑ n : Fin 256, Ideal.exp (s n - Finset.univ.fold max (Ideal.ofBits .f32 0xFF800000#32) s)) := by
  pointwise [k0_pay1]
  simp only [hs]

/-- What a trip stores, at an index, is the reference's result at an index whose query, keys and values it holds. -/
theorem point [Pre_finite_qk.Facts] (p : FVec Ideal S16x2048x5120 .bf16) (kv : FVec Ideal S16x256x1024 .bf16)
    (hpre : Pre_finite_qk.fn p kv = fun _ => 1#1) (v0 v2 v11 : Vec Ideal S1x256x128 .bf16) (x : S1x256x128.Idx)
    (a : Fin 16) (r : Fin 2048) (h : Fin 4) (e : Fin 512) (he : e.val / 128 = h.val)
    (hk : ∀ (n : Fin 256) (d : Fin 128), v0 (ix3 0 n d) = kv (ix3 a n ⟨h.val * 128 + d.val, by omega⟩))
    (hq : ∀ d : Fin 128, v11 (ix3 0 (x 1) d) = p (ix3 a r ⟨4608 + (h.val * 128 + d.val), by omega⟩))
    (hv : ∀ n : Fin 256, v2 (ix3 0 n (x 2)) = kv (ix3 a n ⟨512 + e.val, by omega⟩)) :
    k0_pay1 v0 v2 v11 x = result p kv (ix3 a r e) := by
  have hh : (⟨e.val / 128, by omega⟩ : Fin 4) = h := Fin.ext he
  have hs : ∀ n, (∑ d : Fin 128, v0 (ix3 0 n d) * v11 (ix3 0 (x 1) d)) * Ideal.ofBits .f32 0x3DB504F3#32 = score p kv (ix4 a h r n) := fun n => by
    rw [score_apply]
    refine congrArg (· * _) (Finset.sum_congr rfl fun d _ => ?_)
    rw [hk, hq, mul_comm]
  have real : ∀ n, ∃ q : ℝ, score p kv (ix4 a h r n) = q := fun n => by
    rw [score_apply]
    exact Softmax.score_real _ _ _ (fun d => Pre_finite_qk.query p kv hpre a r ⟨h.val * 128 + d.val, by omega⟩)
      (fun d => Pre_finite_qk.key p kv hpre a n ⟨h.val * 128 + d.val, by omega⟩) Softmax.scale_real
  rw [pay v0 v2 v11 x _ hs, Softmax.average _ _ _ Softmax.bottom real, result_apply]
  refine Finset.sum_congr rfl fun n _ => congrArg₂ (· * ·) (hv n) ?_
  have w : ∀ n, weight (score p kv) (ix4 a h r n) = Ideal.exp (score p kv (ix4 a h r n) - max (Ideal.ofBits .f32 0xFF800000#32)
      (Finset.univ.fold max (Ideal.ofBits .f32 0xFF800000#32) fun n : Fin 256 => score p kv (ix4 a h r n))) := fun n => by
    rw [weight_apply, ← top_apply]
    rfl
  change _ = Ideal.div (weight (score p kv) (ix4 a ⟨e.val / 128, by omega⟩ r n)) (∑ n : Fin 256, weight (score p kv) (ix4 a ⟨e.val / 128, by omega⟩ r n))
  rw [hh]
  exact (congrArg₂ Ideal.div (w n) (Finset.sum_congr rfl fun n _ => w n)).symm

/-- The result array after the run. -/
theorem final [Pre_finite_qk.Facts] (c : Dev nD)
    (hpre : Pre_finite_qk.fn (F := Ideal) (m ((c : Thread nD τ).loc main_arg0)) (m ((c : Thread nD τ).loc main_arg1)) = fun _ => 1#1) :
    (dats m 0 c).arrAt 3 (cfgs 0).N = result (m ((c : Thread nD τ).loc main_arg0)) (m ((c : Thread nD τ).loc main_arg1)) := by
  refine (dats m 0 c).arrAt_eq_of_covers 3 _ (by decide +kernel) fun t _ y => ?_
  blk_simp
  rw [after0_3]
  refine congrFun (out m c t (fun y => result _ _ (((cfg0.win 3).blk t).view.emb y)) fun k j => ?_) y
  have ht : t.val < 64 := t.isLt
  have hk : k.val < 8 := Nat.lt_of_lt_of_le k.isLt k0_t1_abs.2.1
  have h1 : (j 1).val < 256 := (j 1).isLt
  have h2 : (j 2).val < 128 := (j 2).isLt
  have hi : ((cfg0.win 3).blk t).view.emb ((rows k).emb j)
      = ix3 ⟨t.val / 4, by omega⟩ ⟨256 * k.val + (j 1).val, by omega⟩ ⟨t.val % 4 * 128 + (j 2).val, by omega⟩ := by
    blk_ext [idx t, off k]
  show _ = result _ _ (((cfg0.win 3).blk t).view.emb ((rows k).emb j))
  rw [hi]
  refine point _ _ hpre _ _ _ _ _ _ ⟨t.val % 4, by omega⟩ _ (by simp only []; omega) (fun n d => ?_) (fun d => ?_) (fun n => ?_)
  · blk_point [iblk, V, idx t]
  · show iblk m c 0 t ((rows k).emb (ix3 0 (j 1) d)) = _
    blk_point [iblk, V, idx t, off k]
  · blk_point [iblk, V, idx t]

end Cert.KernelMemIdeal.Array

end
-- ==== Proof.Expert.Range.lean ====
/- What the precondition says of the table of experts: each word is one of the eight experts' numbers. -/
module

public import proofs.«01_k».proof.Pre_table_in_range

@[expose] public section

noncomputable section

namespace Cert.Pre_table_in_range

open Idealize.ShloMosaic

/-- The side conditions of the predicate's operations. -/
theorem facts : Facts where
  bcast_S_S72 := by decide

/-- Where the predicate is all ones, every word of the first table is below eight. -/
theorem below {F : FTy → Type} [FloatOps F] [Facts] (a0 : IVec S72 32) (a1 : IVec S1 32) (a2 : FVec F S73728x1024 .bf16)
    (a3 a4 : FVec F S8x1024x3584 .bf16) (a5 : FVec F S8x3584x1024 .bf16) (h : fn a0 a1 a2 a3 a4 a5 = fun _ => 1#1) (x : S72.Idx) :
    (a0 x).toNat < 8 := by
  have e := congrFun h x
  simp only [fn, andi, cmpi, broadcastInDim, constantI] at e
  have key : ∀ v : BitVec 32, IntOp.andi (IntOp.cmpi .sge v 0#32) (IntOp.cmpi .slt v 8#32) = 1#1 → v.toNat < 8 := by
    intro v e
    have both : ∀ p q : Bool, IntOp.andi (BitVec.ofBool p) (BitVec.ofBool q) = 1#1 → p = true ∧ q = true := by decide
    have := both _ _ e
    simp only [BitVec.sle_eq_decide, BitVec.slt_eq_decide, decide_eq_true_eq, BitVec.toInt_eq_toNat_cond, BitVec.toNat_ofNat,
      Nat.reducePow, Nat.reduceMod] at this
    omega
  exact key _ e

end Cert.Pre_table_in_range

end
-- ==== Proof.Expert.Body.lean ====
/- The body of the expert feed-forward kernel at one grid point, as a triple.

   The grid is 72 chunks of token rows by 7 blocks of the hidden axis. The body does its products only for the chunks
   in use (the chunk's number is below the word the second table holds); the first block of a chunk puts its product into
   the scratch buffer, the later ones add theirs to it, and the last block stores the scratch buffer as the chunk's output.
   For a chunk not in use the last block stores zeros. -/
module

public import proofs.«01_k».proof.Proof.Gen.KernelExpertIdeal.Launch
public import proofs.«01_k».proof.Proof.Gen.KernelExpertIdeal.Skeleton
public import Idealize.ShloMosaic.Lib.Pipeline.FrameBody
public import Idealize.ShloMosaic.Lib.Pipeline.ValueKit
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelExpertIdeal.Run

open Cert.KernelExpertIdeal Cert.KernelExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables and the conditions -/

/-- The table of the experts of the chunks, and the table of the number of chunks in use, as whole memrefs. -/
abbrev experts : Memref sig .tc .smem S72 .i32 := Memref.whole main_arg0
abbrev count : Memref sig .tc .smem S1 .i32 := Memref.whole main_arg1

/-- The contents of a table on core `c`, and the half of it that the body may read. -/
abbrev Table (c : Dev nD) {S : Shape} (M : Memref sig .tc .smem S .i32) : Type := Buf (Elt F) (M.view.loc (c : Thread nD τ))
abbrev held (c : Dev nD) {S : Shape} (M : Memref sig .tc .smem S .i32) (f : Table (F := F) c M) : sProp 𝕄 :=
  M.view.loc (c : Thread nD τ) ↦{fullShare.right} f

/-- The word of the second table, as the body loads it. -/
abbrev word (c : Dev nD) (f : Table (F := F) c count) : BitVec 32 :=
  count.view.readAt (Elt F) (Rect.unit (s := S1) ![0] S1.size inb_S1_S1_0).toLoadRect f (Shape.Idx.first (numel1_S1.symm ▸ Nat.one_pos))

/-- The chunk of point `i` is in use, at the word `v`. -/
abbrev Used (i : grid0.Coords) (v : BitVec 32) : Prop := k0_cond1 i v = 1#1
/-- The block of the hidden axis at point `i` is the first one, is a later one, is the last one. -/
abbrev First (i : grid0.Coords) : Prop := (Scalar.cmpi .ne (Scalar.extui (Scalar.cmpi .eq (BitVec.ofNat 32 (i 1).val) 0#32)) 0#32) = 1#1
abbrev Later (i : grid0.Coords) : Prop := (Scalar.cmpi .ne (Scalar.extui (Scalar.cmpi .sgt (BitVec.ofNat 32 (i 1).val) 0#32)) 0#32) = 1#1
abbrev Last (i : grid0.Coords) : Prop := k0_cond4 i = 1#1

/-- The condition under which the body stores zeros: the last block of a chunk that is not in use. -/
theorem zeros_iff (i : grid0.Coords) (v : BitVec 32) : k0_cond5 i v = 1#1 ↔ ¬Used i v ∧ Last i := by
  unfold Used Last k0_cond1 k0_cond4 k0_cond5
  dsimp only
  generalize Scalar.cmpi .slt (BitVec.ofNat 32 (i 0).val) v = a
  generalize Scalar.cmpi .eq (BitVec.ofNat 32 (i 1).val) 6#32 = b
  revert a b
  decide

/-! ## What the body leaves -/

open Classical in
/-- The scratch buffer after a point of a chunk in use (`u`): the block's product, added to what the buffer held
    unless the block is the first one. Otherwise the buffer is left as it was. -/
def scratch (u a : Prop) (x0 : Vec F S1024x1024 .bf16) (x1 x2 : Vec F S1x1024x512 .bf16) (x3 : Vec F S1x512x1024 .bf16)
    (d : Vec F S1024x1024 .f32) : Vec F S1024x1024 .f32 :=
  if u then (if a then k0_pay2 x0 x1 x2 x3 else k0_pay3 x0 x1 x2 x3 d) else d

open Classical in
/-- The output block after a point: at the last block the scratch buffer, or zeros if the chunk is not in use. -/
def stored (u l : Prop) (s e : Vec F S1024x1024 .f32) : Vec F S1024x1024 .f32 :=
  if l then (if u then s else k0_pay4) else e

theorem stored_last {u l : Prop} (h : l) (s e : Vec F S1024x1024 .f32) [Decidable u] : stored u l s e = if u then s else k0_pay4 := by
  unfold stored
  rw [if_pos h]
  congr

theorem stored_before {u l : Prop} (h : ¬l) (s e : Vec F S1024x1024 .f32) : stored u l s e = e := by
  unfold stored
  rw [if_neg h]

/-! ## The triple -/

set_option maxHeartbeats 1000000 in
/-- On whole staging memrefs holding the blocks `x0 … x3`, the output's at `e` and the scratch buffer at `d`, the body
    runs and leaves the inputs' as they were, the scratch buffer at `scratch` and the output at `stored`. -/
theorem body (c : Dev nD) (i : grid0.Coords)
    (arg4 : Memref sig .tc .vmem S1024x1024 .bf16) (harg4 : arg4.IsWhole) (arg5 : Memref sig .tc .vmem S1x1024x512 .bf16) (harg5 : arg5.IsWhole)
    (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .f32) (harg9 : arg9.IsWhole)
    (hfl : Later i ↔ ¬First i) (hll : Last i → ¬First i)
    (x0 : Vec F S1024x1024 .bf16) (x1 x2 : Vec F S1x1024x512 .bf16) (x3 : Vec F S1x512x1024 .bf16) (e d : Vec F S1024x1024 .f32)
    (t0 : Table (F := F) c experts) (t1 : Table (F := F) c count) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare e ∗ owns (c : Thread nD τ) arg9 fullShare d
        ∗ held c experts t0 ∗ held c count t1
        ∗ (iprop(owns (c : Thread nD τ) arg4 fullShare x0 ∗ owns (c : Thread nD τ) arg5 fullShare x1 ∗ owns (c : Thread nD τ) arg6 fullShare x2
            ∗ owns (c : Thread nD τ) arg7 fullShare x3
            ∗ owns (c : Thread nD τ) arg8 fullShare (stored (Used i (word c t1)) (Last i) (scratch (Used i (word c t1)) (First i) x0 x1 x2 x3 d) e)
            ∗ owns (c : Thread nD τ) arg9 fullShare (scratch (Used i (word c t1)) (First i) x0 x1 x2 x3 d)
            ∗ held c experts t0 ∗ held c count t1) -∗ K ⟨⟩))
      ⊢ wp frame (wpE (defs₀ (F := F)) Variants.none c none) E
          (cc0_expert_ffn i experts (Memref.isWhole_whole _) count (Memref.isWhole_whole _) arg4 harg4 arg5 harg5 arg6 harg6 arg7 harg7 arg8 harg8 arg9 harg9) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5
  have e0 := (View.readAt_full arg4.view (harg4.unread x0) inb_S1024x1024_S1024x1024_0_0).trans hf0
  have e1 := (View.readAt_full arg5.view (harg5.unread x1) inb_S1x1024x512_S1x1024x512_0_0_0).trans hf1
  have e2 := (View.readAt_full arg6.view (harg6.unread x2) inb_S1x1024x512_S1x1024x512_0_0_0).trans hf2
  have e3 := (View.readAt_full arg7.view (harg7.unread x3) inb_S1x512x1024_S1x512x1024_0_0_0).trans hf3
  have e5 := (View.readAt_full arg9.view (harg9.unread d) inb_S1024x1024_S1024x1024_0_0).trans hf5
  have hz := zeros_iff i (word c t1)
  have h15 : Used i (word c t1) → ¬k0_cond5 i (word c t1) = 1#1 := fun h h' => (hz.mp h').1 h
  have h45 : ¬Last i → ¬k0_cond5 i (word c t1) = 1#1 := fun h h' => h (hz.mp h').2
  by_cases h1 : Used i (word c t1) <;> by_cases h4 : Last i
  on_goal 2 => by_cases h2 : First i
  on_goal 1 =>
    have h2 : ¬First i := hll h4
    have h3 : Later i := hfl.mpr h2
    have h5 := h15 h1
    rw [scratch, if_pos h1, if_neg h2, stored, if_pos h4, if_pos h1]
  on_goal 2 =>
    have h3 : ¬Later i := fun h => hfl.mp h h2
    have h5 := h15 h1
    rw [scratch, if_pos h1, if_pos h2, stored, if_neg h4]
  on_goal 3 =>
    have h3 : Later i := hfl.mpr h2
    have h5 := h15 h1
    rw [scratch, if_pos h1, if_neg h2, stored, if_neg h4]
  on_goal 4 =>
    have h2 := hz.mpr ⟨h1, h4⟩
    have h3 := h2
    have h5 := h2
    rw [scratch, if_neg h1, stored, if_pos h4, if_neg h1]
  on_goal 5 =>
    have h2 := h45 h4
    have h3 := h2
    have h5 := h2
    rw [scratch, if_neg h1, stored, if_neg h4]
  all_goals
    sl_exec (disch := first | sl_exact h1 | sl_exact h2 | sl_exact h3 | sl_exact h4 | sl_exact h5)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro
      first
        | with_reducible exact hf4
        | exact View.read_writes_full arg8.view _ inb_S1024x1024_S1024x1024_0_0 _ []
        | exact (View.read_writes_full arg8.view _ inb_S1024x1024_S1024x1024_0_0 _ []).trans (View.readCov_full arg9.view inb_S1024x1024_S1024x1024_0_0 inb_S1024x1024_S1024x1024_0_0 _ [])
    isplitl [H5]
    · iexists _; isplitr; swap; · iexact H5
      ipureintro
      first
        | with_reducible exact hf5
        | exact View.read_writes_full arg9.view _ inb_S1024x1024_S1024x1024_0_0 _ []
    isplitl [HT0]; · iexact HT0
    iexact HT1

end Cert.KernelExpertIdeal.Run

end
-- ==== Proof.Expert.Launch.lean ====
/- The launch of the expert feed-forward kernel: the pipeline's proof data from the body's triple, the run to its end,
   and the frame (every argument ends unchanged, every semaphore at zero). -/
module

public import proofs.«01_k».proof.Proof.Expert.Body

@[expose] public section

set_option maxRecDepth 16384

noncomputable section

namespace Cert.KernelExpertIdeal.Run

open Cert.KernelExpertIdeal Cert.KernelExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the tables -/

/-- Core `c`'s buffers when the pipeline is entered: as launched. -/
abbrev V (c : Dev nD) (b : Ref sig .tc) : Buf (Elt F) ((c : Thread nD τ).loc b) := m ((c : Thread nD τ).loc b)

set_option maxHeartbeats 800000 in
/-- The program up to the pipeline is the pipeline alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The contents of the tables, the same on every device: there is one. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The side condition of the tables' contents (each block that a table selects lies in its array), and the pipeline at
    contents that satisfy it. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The two tables' contents, as the body reads them. -/
def chosen (c : Dev nD) : Table (F := F) c experts := tbl m 0
def counts (c : Dev nD) : Table (F := F) c count := tbl m 1

/-- The halves of the tables which the body may read. -/
theorem tables_eq (c : Dev nD) : (Pipeline.ΦT pre0 (tbl m) c : sProp 𝕄) = iprop(held c experts (chosen m c) ∗ held c count (counts m c)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`, of its array as launched. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## The points -/

theorem coords_val (t : Fin grid0.N) : (grid0.coords t 0).val = t.val / 7 ∧ (grid0.coords t 1).val = t.val % 7 := by
  have ht : t.val < 504 := Nat.lt_of_lt_of_eq t.isLt N_0
  have e0 : (grid0.coords t 0).val = t.val / 7 % 72 := Pipeline.Grid.coords_val t 0 (by decide) rfl
  have e1 : (grid0.coords t 1).val = t.val / 1 % 7 := Pipeline.Grid.coords_val t 1 (by decide) rfl
  omega

theorem first_iff (t : Fin grid0.N) : First (grid0.coords t) ↔ t.val % 7 = 0 := by
  have ht : t.val < 504 := Nat.lt_of_lt_of_eq t.isLt N_0
  simp only [First, (coords_val t).2]
  word_cmp

theorem later_iff : ∀ t : Fin grid0.N, Later (grid0.coords t) ↔ 1 ≤ t.val % 7 := by decide +kernel

theorem last_iff (t : Fin grid0.N) : Last (grid0.coords t) ↔ t.val % 7 = 6 := by
  have ht : t.val < 504 := Nat.lt_of_lt_of_eq t.isLt N_0
  simp only [Last, k0_cond4, (coords_val t).2]
  word_cmp

/-- Whether a point's chunk is in use depends on the chunk alone. -/
theorem used_congr {i j : grid0.Coords} (h : (i 0).val = (j 0).val) (v : BitVec 32) : Used i v ↔ Used j v := by
  unfold Used k0_cond1
  rw [h]

/-- The output's staging buffer is touched at the last blocks only, -/
theorem idle_iff (hO : Ok m) (t : Fin (cfgM m hO).N) : (cfgM m hO).idle 4 (grid0.coords t) = !decide (Last (grid0.coords t)) := by
  show idle0 (tbl m) 4 (grid0.coords t) = _
  have hz := zeros_iff (grid0.coords t) ((tbl m).atD 1 ![0])
  dsimp only [idle0]
  generalize k0_cond5 (grid0.coords t) ((tbl m).atD 1 ![0]) = z at hz
  unfold Used Last at *
  generalize k0_cond1 (grid0.coords t) ((tbl m).atD 1 ![0]) = a at hz
  generalize k0_cond4 (grid0.coords t) = b at hz ⊢
  revert a b z
  decide

/-- and written back there. -/
theorem flush_iff (hO : Ok m) (t : Fin (cfgM m hO).N) : ((cfgM m hO).win 4).flush t = true ↔ t.val % 7 = 6 :=
  (fun t => Pipeline.Window.flushOf_reads cc0_transform_4 reads0_4 hreads0_4 0 (by decide) (by decide)
    (Pipeline.Window.sep_of_coord cc0_transform_4 0 0 (fun _ => rfl) (by decide)) (P := 7) (m := 6) (by decide) rfl t :
    ∀ t : Fin grid0.N, Pipeline.Window.flushOf grid0 true cc0_transform_4 t = true ↔ t.val % 7 = 6) t

/-! ## What the buffers hold -/

/-- The point's chunk is in use. -/
abbrev used (c : Dev nD) (t : Fin grid0.N) : Prop := Used (grid0.coords t) (word c (counts m c))

/-- The scratch buffer after point `n` of a chunk in use: the sum of the block products of the chunk so far. -/
def acc (hO : Ok m) (c : Dev nD) : (n : ℕ) → n < (cfgM m hO).N → Vec F S1024x1024 .f32
  | 0, h => k0_pay2 (blk m hO c 0 ⟨0, h⟩) (blk m hO c 1 ⟨0, h⟩) (blk m hO c 2 ⟨0, h⟩) (blk m hO c 3 ⟨0, h⟩)
  | n + 1, h =>
    if (n + 1) % 7 = 0 then k0_pay2 (blk m hO c 0 ⟨n + 1, h⟩) (blk m hO c 1 ⟨n + 1, h⟩) (blk m hO c 2 ⟨n + 1, h⟩) (blk m hO c 3 ⟨n + 1, h⟩)
    else k0_pay3 (blk m hO c 0 ⟨n + 1, h⟩) (blk m hO c 1 ⟨n + 1, h⟩) (blk m hO c 2 ⟨n + 1, h⟩) (blk m hO c 3 ⟨n + 1, h⟩) (acc hO c n (Nat.lt_of_succ_lt h))

/-- At a chunk's first block the product alone; -/
theorem acc_first (hO : Ok m) (c : Dev nD) (t : Fin (cfgM m hO).N) (h : t.val % 7 = 0) :
    acc m hO c t.val t.isLt = k0_pay2 (blk m hO c 0 t) (blk m hO c 1 t) (blk m hO c 2 t) (blk m hO c 3 t) := by
  obtain ⟨n, hn⟩ := t
  cases n with
  | zero => rfl
  | succ n => exact if_pos h

/-- at a later one the product added to the sum so far. -/
theorem acc_later (hO : Ok m) (c : Dev nD) (t : Fin (cfgM m hO).N) (h : t.val % 7 ≠ 0) (k : ℕ) (hk : k < (cfgM m hO).N) (e : k + 1 = t.val) :
    acc m hO c t.val t.isLt = k0_pay3 (blk m hO c 0 t) (blk m hO c 1 t) (blk m hO c 2 t) (blk m hO c 3 t) (acc m hO c k hk) := by
  obtain ⟨n, hn⟩ := t
  obtain rfl : k + 1 = n := e
  exact if_neg h

open Classical in
/-- The output block which a chunk's last point stores. -/
def out (hO : Ok m) (c : Dev nD) (t : Fin (cfgM m hO).N) : Vec F S1024x1024 .f32 :=
  if used m c t then acc m hO c t.val t.isLt else k0_pay4

/-- The scratch buffer as a memref. -/
abbrev scM : Memref sig .tc .vmem S1024x1024 .f32 := Memref.whole cc0_scratch0

/-- Between points: the scratch buffer holds the running sum if the point before is of a chunk in use, and anything
    otherwise. -/
def inv (hO : Ok m) (c : Dev nD) (n : ℕ) : sProp 𝕄 :=
  iprop(iprop(iprop(∃ d, ⌜∀ (k : ℕ) (hk : k < (cfgM m hO).N), k + 1 = n → used m c ⟨k, hk⟩ → d = acc m hO c k hk⌝ ∗ owns (c : Thread nD τ) scM fullShare d)
    ∗ (∃ r, prngReg c r)) ∗ Pipeline.ΦT pre0 (tbl m) c)

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => out m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = blk m hO c 0 t := by dsimp only [dats]; try rfl
theorem after_1 (hO : Ok m) (c : Dev nD) (t : Fin (cfgM m hO).N) : (dats m hO 0 c).after 1 t = blk m hO c 1 t := by dsimp only [dats]; try rfl
theorem after_2 (hO : Ok m) (c : Dev nD) (t : Fin (cfgM m hO).N) : (dats m hO 0 c).after 2 t = blk m hO c 2 t := by dsimp only [dats]; try rfl
theorem after_3 (hO : Ok m) (c : Dev nD) (t : Fin (cfgM m hO).N) : (dats m hO 0 c).after 3 t = blk m hO c 3 t := by dsimp only [dats]; try rfl
theorem after_4 (hO : Ok m) (c : Dev nD) (t : Fin (cfgM m hO).N) : (dats m hO 0 c).after 4 t = out m hO c t := by dsimp only [dats]; try rfl

/-- An input's staging buffer holds its block at every point, fetched there or not. -/
theorem before_0 (hO : Ok m) (c : Dev nD) (t : Fin (cfgM m hO).N) (d) : (dats m hO 0 c).before 0 t d = blk m hO c 0 t :=
  ((dats m hO 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (hO : Ok m) (c : Dev nD) (t : Fin (cfgM m hO).N) (d) : (dats m hO 0 c).before 1 t d = blk m hO c 1 t :=
  ((dats m hO 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (hO : Ok m) (c : Dev nD) (t : Fin (cfgM m hO).N) (d) : (dats m hO 0 c).before 2 t d = blk m hO c 2 t :=
  ((dats m hO 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (hO : Ok m) (c : Dev nD) (t : Fin (cfgM m hO).N) (d) : (dats m hO 0 c).before 3 t d = blk m hO c 3 t :=
  ((dats m hO 0 c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The body at a point -/

/-- Each window's staging memref at point `t`. -/
abbrev st0 (hO : Ok m) (t : Fin (cfgM m hO).N) : Memref sig .tc .vmem S1024x1024 .bf16 := spec0_0.stage ((cfgM m hO).slots t 0)
abbrev st1 (hO : Ok m) (t : Fin (cfgM m hO).N) : Memref sig .tc .vmem S1x1024x512 .bf16 := spec0_1.stage ((cfgM m hO).slots t 1)
abbrev st2 (hO : Ok m) (t : Fin (cfgM m hO).N) : Memref sig .tc .vmem S1x1024x512 .bf16 := spec0_2.stage ((cfgM m hO).slots t 2)
abbrev st3 (hO : Ok m) (t : Fin (cfgM m hO).N) : Memref sig .tc .vmem S1x512x1024 .bf16 := spec0_3.stage ((cfgM m hO).slots t 3)
abbrev st4 (hO : Ok m) (t : Fin (cfgM m hO).N) : Memref sig .tc .vmem S1024x1024 .f32 := spec0_4.stage ((cfgM m hO).slots t 4)

/-- The body as the pipeline calls it at point `t`. -/
abbrev call (hO : Ok m) (t : Fin (cfgM m hO).N) : Prog (TpuEff nD τ sig (Elt F) Λ₀ .tc) PUnit :=
  cc0_expert_ffn (grid0.coords t) experts (Memref.isWhole_whole _) count (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) scM (Memref.isWhole_whole _)

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- What the body leaves in the scratch buffer at a point of a chunk in use is the running sum. -/
theorem scratch_eq (hO : Ok m) (c : Dev nD) (t : Fin (cfgM m hO).N) (d : Vec F S1024x1024 .f32)
    (hd : ∀ (k : ℕ) (hk : k < (cfgM m hO).N), k + 1 = t.val → used m c ⟨k, hk⟩ → d = acc m hO c k hk) (hu : used m c t) :
    scratch (Used (grid0.coords t) (word c (counts m c))) (First (grid0.coords t)) (blk m hO c 0 t) (blk m hO c 1 t) (blk m hO c 2 t) (blk m hO c 3 t) d
      = acc m hO c t.val t.isLt := by
  have hN : t.val < 504 := lt_of_lt_of_eq t.isLt (show (cfgM m hO).N = 504 from N_0)
  unfold scratch
  rw [if_pos hu]
  by_cases h : t.val % 7 = 0
  · rw [if_pos ((first_iff t).mpr h), acc_first m hO c t h]
  · rw [if_neg fun h' => h ((first_iff t).mp h')]
    have hk : t.val - 1 < (cfgM m hO).N := lt_of_le_of_lt (Nat.sub_le _ _) t.isLt
    have e : t.val - 1 + 1 = t.val := by omega
    rw [acc_later m hO c t h (t.val - 1) hk e, hd (t.val - 1) hk e]
    refine (used_congr ?_ _).mp hu
    rw [(coords_val t).1, (coords_val ⟨t.val - 1, hk⟩).1]
    show t.val / 7 = (t.val - 1) / 7
    omega

/-- Where the body stores nothing the output's buffer is what it was. -/
theorem owns_before (c : Dev nD) {u l : Prop} (h : ¬l) (M : Memref sig .tc .vmem S1024x1024 .f32) (s e : Vec F S1024x1024 .f32) :
    (owns (c : Thread nD τ) M fullShare (stored u l s e) : sProp 𝕄) ⊢ owns (c : Thread nD τ) M fullShare e := by
  rw [stored_before h]

set_option maxHeartbeats 2000000 in
/-- The body at any point. -/
theorem sound_body (hO : Ok m) (c : Dev nD) (t : Fin (cfgM m hO).N) :
    bodyPre m hO c t ⊢ wp frame (wpE (defs₀ (F := F)) Variants.none c none) Set.univ (call m hO t) (fun _ => bodyPost m hO c t) := by
  unfold bodyPre bodyPost
  simp only [before_0, before_1, before_2, before_3]
  rw [show (dats m hO 0 c).owesAt () t.succ = (dats m hO 0 c).owesAt () t.castSucc from rfl,
    show (dats m hO 0 c).Φ t.succ = inv m hO c (t.val + 1) from rfl, show (dats m hO 0 c).Φ t.castSucc = inv m hO c t.val from rfl,
    show (dats m hO 0 c).leavesExact 0 t = owns (c : Thread nD τ) (st0 m hO t) fullShare (blk m hO c 0 t) from by
      unfold Dat.leavesExact; rw [show (cfgM m hO).idle 0 ((cfgM m hO).grid.coords t) = false from rfl, after_0]; try rfl,
    show (dats m hO 0 c).leavesExact 1 t = owns (c : Thread nD τ) (st1 m hO t) fullShare (blk m hO c 1 t) from by
      unfold Dat.leavesExact; rw [show (cfgM m hO).idle 1 ((cfgM m hO).grid.coords t) = false from rfl, after_1]; try rfl,
    show (dats m hO 0 c).leavesExact 2 t = owns (c : Thread nD τ) (st2 m hO t) fullShare (blk m hO c 2 t) from by
      unfold Dat.leavesExact; rw [show (cfgM m hO).idle 2 ((cfgM m hO).grid.coords t) = false from rfl, after_2]; try rfl,
    show (dats m hO 0 c).leavesExact 3 t = owns (c : Thread nD τ) (st3 m hO t) fullShare (blk m hO c 3 t) from by
      unfold Dat.leavesExact; rw [show (cfgM m hO).idle 3 ((cfgM m hO).grid.coords t) = false from rfl, after_3]; try rfl]
  unfold inv
  rw [tables_eq]
  iintro ⟨⟨⟨⟨%d, %hd, HS⟩, Hg⟩, ⟨HT0, HT1⟩⟩, Ho, ⟨%d0, H0⟩, ⟨%d1, H1⟩, ⟨%d2, H2⟩, ⟨%d3, H3⟩, ⟨%d4, H4⟩⟩
  iapply (body c (grid0.coords t) _ _ _ _ _ _ _ _ _ _ _ _
    (by rw [later_iff t, first_iff t]; omega) (by rw [last_iff t, first_iff t]; omega)
    (blk m hO c 0 t) (blk m hO c 1 t) (blk m hO c 2 t) (blk m hO c 3 t) _ d (chosen m c) (counts m c) Set.univ _)
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  iintro ⟨H0, H1, H2, H3, H4, HS, HT0, HT1⟩
  isplitl [HS Hg HT0 HT1]
  · isplitl [HS Hg]
    · isplitl [HS]
      · iexists _; isplitr; swap; · iexact HS
        ipureintro
        intro k hk e hu
        obtain rfl : k = t.val := by omega
        exact scratch_eq m hO c t d hd hu
      iexact Hg
    isplitl [HT0]; · iexact HT0
    iexact HT1
  isplitl [Ho]; · iexact Ho
  isplitl [H0]; · iexact H0
  isplitl [H1]; · iexact H1
  isplitl [H2]; · iexact H2
  isplitl [H3]; · iexact H3
  by_cases hl : Last (grid0.coords t)
  · rw [show (dats m hO 0 c).leavesExact 4 t = owns (c : Thread nD τ) (st4 m hO t) fullShare (out m hO c t) from by
      unfold Dat.leavesExact
      rw [show (cfgM m hO).idle 4 ((cfgM m hO).grid.coords t) = false from (idle_iff m hO t).trans (by rw [decide_eq_true hl]; rfl), after_4]; try rfl]
    rw [show out m hO c t = stored (Used (grid0.coords t) (word c (counts m c))) (Last (grid0.coords t))
        (scratch (Used (grid0.coords t) (word c (counts m c))) (First (grid0.coords t)) (blk m hO c 0 t) (blk m hO c 1 t) (blk m hO c 2 t) (blk m hO c 3 t) d)
        ((dats m hO 0 c).before 4 t d4) from by
      classical
      refine Eq.trans ?_ (stored_last hl _ _).symm
      unfold out
      by_cases hu : used m c t
      · rw [if_pos hu]
        exact ((if_pos hu).trans (scratch_eq m hO c t d hd hu)).symm
      · rw [if_neg hu]
        exact (if_neg hu).symm]
    iexact H4
  · rw [Dat.leavesExact_idle (dats m hO 0 c) 4 t ((idle_iff m hO t).trans (by rw [decide_eq_false hl]; rfl))
      (Bool.eq_false_iff.mpr fun h => hl ((last_iff t).mpr ((flush_iff m hO t).mp h)))]
    iexists d4
    iapply (owns_before c hl (st4 m hO t) _ ((dats m hO 0 c).before 4 t d4))
    iexact H4

theorem defs_row (hO : Ok m) (t : Fin (cfgM m hO).N) :
    defs₀ (F := F) .tc (cfgM m hO).body ((cfgM m hO).bodyArgs t ((cfgM m hO).slots t)) = call m hO t := by
  unfold defs₀; rw [Defs.onTc_tc]

/-- The pipeline's obligation of the body, at every point. -/
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

/-! ## The run and the frame -/

theorem rest_eq (c : Dev nD) : (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- What the launch hands the pipeline is the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, rest_eq]
  unfold inv
  iintro ⟨⟨⟨%d, HS⟩, Hg⟩, HT⟩
  isplitl [HS Hg]
  · isplitl [HS]
    · iexists d; isplitr; · ipureintro; exact fun k hk e => absurd e (Nat.succ_ne_zero k)
      iexact HS
    iexact Hg
  iexact HT

/-- and after the last one it is given back. -/
theorem hout (hO : Ok m) (c : Dev nD) : (dats m hO 0 c).Φ (Fin.last (cfgM m hO).N) ⊢ Pipeline.ΦA spec0 c := by
  rw [show (dats m hO 0 c).Φ (Fin.last (cfgM m hO).N) = inv m hO c (Fin.last (cfgM m hO).N).val from rfl, rest_eq]
  unfold inv
  iintro ⟨⟨⟨%d, -, HS⟩, Hg⟩, -⟩
  isplitl [HS]
  · iexists d; iexact HS
  iexact Hg

set_option backward.isDefEq.respectTransparency.types false in
/-- The program ends, with every array of the pipeline as the proof data say and every semaphore at zero. -/
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run with what the claims read: every argument unchanged, the result array as the proof data say, the
    semaphores at zero. -/
theorem run (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m hO 0 c).arrAt 4 (cfgM m hO).N)
      ∧ r.2.sem = fun _ => 0) :=
  (θ_run defs _ _).mono (fun _ ⟨h, hs⟩ => ⟨fun c => ⟨⟨((h c).2 main_arg0 (by decide : main_arg0 ∈ Pipeline.restRefs sig spec0)),
      ((h c).2 main_arg1 (by decide : main_arg1 ∈ Pipeline.restRefs sig spec0)),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3))⟩, (h c).1 4⟩, hs⟩) (run_quiescent m ρ hO)

end Cert.KernelExpertIdeal.Run

end
-- ==== Proof.Expert.Tables.lean ====
/- The blocks which the table of experts selects: where each of its words names one of the eight experts, every selected
   block lies in its array, and the selected expert is the one the word names. -/
module

public import proofs.«01_k».proof.Proof.Expert.Launch
public import Idealize.ShloMosaic.Lib.ValueIdxCore

@[expose] public section

set_option maxRecDepth 16384

noncomputable section

namespace Cert.KernelExpertIdeal.Run

open Cert.KernelExpertIdeal Cert.KernelExpertIdeal.Gen
open Idealize.ShloMosaic Idealize.ShloMosaic.TcCoe

variable {F : FTy → Type} [FloatOps F]

/-- The word an index map loads at a grid point is the table's word of the point's chunk. -/
theorem at_eq (pf : pre0.Contents (Elt F)) (i : grid0.Coords) :
    pf.at 0 (Rect.unit (s := S72) (k0_off1 i) S1.size (k0_off1_inb i)) numel1_S1 = pf 0 (ix1 (i 0)) := by
  refine congrArg (pf 0) (funext fun a => Fin.ext ?_)
  have h : (i 0).val < 72 := (i 0).isLt
  match a with
  | ⟨0, _⟩ =>
    have e : (BitVec.ofNat 32 (i 0).val).toNat = (i 0).val := by
      rw [BitVec.toNat_ofNat]
      omega
    exact e

/-- The second coordinate of a grid point survives its trip through a word. -/
theorem word_val (i : grid0.Coords) : (BitVec.ofNat 32 (i 1).val).toNat = (i 1).val := by
  have h : (i 1).val < 7 := (i 1).isLt
  rw [BitVec.toNat_ofNat]
  omega

/-- The blocks of the three weights at a grid point: the expert which the table names, and the point's hidden columns. -/
theorem index_1 (pf : pre0.Contents (Elt F)) (i : grid0.Coords) :
    cc0_transform_1 k0_off1_inb numel1_S1 pf i = ![(show BitVec 32 from pf 0 (ix1 (i 0))).toNat, 0, (i 1).val] :=
  congrArg₂ (fun (v : BitVec 32) (b : ℕ) => ![v.toNat, 0, b]) (at_eq pf i) (word_val i)
theorem index_2 (pf : pre0.Contents (Elt F)) (i : grid0.Coords) :
    cc0_transform_2 k0_off1_inb numel1_S1 pf i = ![(show BitVec 32 from pf 0 (ix1 (i 0))).toNat, 0, (i 1).val] :=
  congrArg₂ (fun (v : BitVec 32) (b : ℕ) => ![v.toNat, 0, b]) (at_eq pf i) (word_val i)
theorem index_3 (pf : pre0.Contents (Elt F)) (i : grid0.Coords) :
    cc0_transform_3 k0_off1_inb numel1_S1 pf i = ![(show BitVec 32 from pf 0 (ix1 (i 0))).toNat, (i 1).val, 0] :=
  congrArg₂ (fun (v : BitVec 32) (b : ℕ) => ![v.toNat, b, 0]) (at_eq pf i) (word_val i)

/-- A block of one of the widening weights: in its array, and whole words. -/
theorem wide_ok (ix : Fin 3 → ℕ) (e b : ℕ) (h : ix = ![e, 0, b]) (he : e < 8) (hb : b < 7) :
    ∃ h : (∀ a, (ix a + 1) * S1x1024x512.size a ≤ S8x1024x3584.size a), EltTy.bits .bf16 = 32 ∨ (Rect.block (s := S8x1024x3584) S1x1024x512.size ix h).WholeWords (EltTy.packing .bf16) := by
  subst h
  refine ⟨fun a => ?_, Or.inr (Or.inr ⟨by decide, rfl, rfl, rfl⟩)⟩
  match a with
  | ⟨0, _⟩ => show (e + 1) * 1 ≤ 8; omega
  | ⟨1, _⟩ => show (0 + 1) * 1024 ≤ 1024; omega
  | ⟨2, _⟩ => show (b + 1) * 512 ≤ 3584; omega

/-- A block of the narrowing weight, likewise. -/
theorem narrow_ok (ix : Fin 3 → ℕ) (e b : ℕ) (h : ix = ![e, b, 0]) (he : e < 8) (hb : b < 7) :
    ∃ h : (∀ a, (ix a + 1) * S1x512x1024.size a ≤ S8x3584x1024.size a), EltTy.bits .bf16 = 32 ∨ (Rect.block (s := S8x3584x1024) S1x512x1024.size ix h).WholeWords (EltTy.packing .bf16) := by
  subst h
  refine ⟨fun a => ?_, Or.inr (Or.inl (Or.inr ⟨by decide, rfl, Or.inl ⟨?_, ⟨256, rfl⟩⟩⟩))⟩
  · match a with
    | ⟨0, _⟩ => show (e + 1) * 1 ≤ 8; omega
    | ⟨1, _⟩ => show (b + 1) * 512 ≤ 3584; omega
    | ⟨2, _⟩ => show (0 + 1) * 1024 ≤ 1024; omega
  · show 2 ∣ b * 512
    omega

variable (m : (ℓ : Loc nD τ sig) → Buf (Elt F) ℓ)

/-- What each input window's buffer holds at a grid point: the point's block of its array, read at an index. -/
theorem blk_0 (hO : Ok m) (c : Dev nD) (t : Fin (cfgM m hO).N) (y : S1024x1024.Idx) (x : S73728x1024.Idx)
    (h0 : (x 0).val = t.val / 7 * 1024 + (y 0).val) (h1 : (x 1).val = (y 1).val) :
    blk m hO c 0 t y = (show Vec F S73728x1024 .bf16 from V m c main_arg2) x := by
  refine congrArg (V m c main_arg2) (funext fun a => Fin.ext ?_)
  have ht : t.val < 504 := Nat.lt_of_lt_of_eq t.isLt N_0
  match a with
  | ⟨0, _⟩ =>
    refine Eq.trans ?_ h0.symm
    show (BitVec.ofNat 32 (grid0.coords t 0).val).toNat * 1024 + 1 * (y 0).val = _
    rw [(coords_val t).1, BitVec.toNat_ofNat]
    omega
  | ⟨1, _⟩ =>
    refine Eq.trans ?_ h1.symm
    show 0 * 1024 + 1 * (y 1).val = _
    omega

theorem blk_1 (hO : Ok m) (c : Dev nD) (t : Fin (cfgM m hO).N) (y : S1x1024x512.Idx) (x : S8x1024x3584.Idx)
    (h0 : (x 0).val = (chosen m 0 (ix1 (grid0.coords t 0)) : BitVec 32).toNat) (h1 : (x 1).val = (y 1).val) (h2 : (x 2).val = t.val % 7 * 512 + (y 2).val) :
    blk m hO c 1 t y = (show Vec F S8x1024x3584 .bf16 from V m c main_arg3) x := by
  refine congrArg (V m c main_arg3) (funext fun a => Fin.ext ?_)
  have hi := index_1 (tbl m) (grid0.coords t)
  have ht := (coords_val t).2
  match a with
  | ⟨0, _⟩ =>
    refine Eq.trans ?_ h0.symm
    have e := congrFun hi 0
    have hy : (y 0).val < 1 := (y 0).isLt
    show cc0_transform_1 k0_off1_inb numel1_S1 (tbl m) (grid0.coords t) 0 * 1 + 1 * (y 0).val = _
    refine (congrArg (fun n => n * 1 + 1 * (y 0).val) e).trans ?_
    show (chosen m 0 (ix1 (grid0.coords t 0)) : BitVec 32).toNat * 1 + 1 * (y 0).val = _
    omega
  | ⟨1, _⟩ =>
    refine Eq.trans ?_ h1.symm
    have e := congrFun hi 1
    show cc0_transform_1 k0_off1_inb numel1_S1 (tbl m) (grid0.coords t) 1 * 1024 + 1 * (y 1).val = _
    refine (congrArg (fun n => n * 1024 + 1 * (y 1).val) e).trans ?_
    show 0 * 1024 + 1 * (y 1).val = _
    omega
  | ⟨2, _⟩ =>
    refine Eq.trans ?_ h2.symm
    have e := congrFun hi 2
    show cc0_transform_1 k0_off1_inb numel1_S1 (tbl m) (grid0.coords t) 2 * 512 + 1 * (y 2).val = _
    refine (congrArg (fun n => n * 512 + 1 * (y 2).val) e).trans ?_
    show (grid0.coords t 1).val * 512 + 1 * (y 2).val = _
    omega
theorem blk_2 (hO : Ok m) (c : Dev nD) (t : Fin (cfgM m hO).N) (y : S1x1024x512.Idx) (x : S8x1024x3584.Idx)
    (h0 : (x 0).val = (chosen m 0 (ix1 (grid0.coords t 0)) : BitVec 32).toNat) (h1 : (x 1).val = (y 1).val) (h2 : (x 2).val = t.val % 7 * 512 + (y 2).val) :
    blk m hO c 2 t y = (show Vec F S8x1024x3584 .bf16 from V m c main_arg4) x := by
  refine congrArg (V m c main_arg4) (funext fun a => Fin.ext ?_)
  have hi := index_2 (tbl m) (grid0.coords t)
  have ht := (coords_val t).2
  match a with
  | ⟨0, _⟩ =>
    refine Eq.trans ?_ h0.symm
    have e := congrFun hi 0
    have hy : (y 0).val < 1 := (y 0).isLt
    show cc0_transform_2 k0_off1_inb numel1_S1 (tbl m) (grid0.coords t) 0 * 1 + 1 * (y 0).val = _
    refine (congrArg (fun n => n * 1 + 1 * (y 0).val) e).trans ?_
    show (chosen m 0 (ix1 (grid0.coords t 0)) : BitVec 32).toNat * 1 + 1 * (y 0).val = _
    omega
  | ⟨1, _⟩ =>
    refine Eq.trans ?_ h1.symm
    have e := congrFun hi 1
    show cc0_transform_2 k0_off1_inb numel1_S1 (tbl m) (grid0.coords t) 1 * 1024 + 1 * (y 1).val = _
    refine (congrArg (fun n => n * 1024 + 1 * (y 1).val) e).trans ?_
    show 0 * 1024 + 1 * (y 1).val = _
    omega
  | ⟨2, _⟩ =>
    refine Eq.trans ?_ h2.symm
    have e := congrFun hi 2
    show cc0_transform_2 k0_off1_inb numel1_S1 (tbl m) (grid0.coords t) 2 * 512 + 1 * (y 2).val = _
    refine (congrArg (fun n => n * 512 + 1 * (y 2).val) e).trans ?_
    show (grid0.coords t 1).val * 512 + 1 * (y 2).val = _
    omega
theorem blk_3 (hO : Ok m) (c : Dev nD) (t : Fin (cfgM m hO).N) (y : S1x512x1024.Idx) (x : S8x3584x1024.Idx)
    (h0 : (x 0).val = (chosen m 0 (ix1 (grid0.coords t 0)) : BitVec 32).toNat) (h1 : (x 1).val = t.val % 7 * 512 + (y 1).val) (h2 : (x 2).val = (y 2).val) :
    blk m hO c 3 t y = (show Vec F S8x3584x1024 .bf16 from V m c main_arg5) x := by
  refine congrArg (V m c main_arg5) (funext fun a => Fin.ext ?_)
  have hi := index_3 (tbl m) (grid0.coords t)
  have ht := (coords_val t).2
  match a with
  | ⟨0, _⟩ =>
    refine Eq.trans ?_ h0.symm
    have e := congrFun hi 0
    have hy : (y 0).val < 1 := (y 0).isLt
    show cc0_transform_3 k0_off1_inb numel1_S1 (tbl m) (grid0.coords t) 0 * 1 + 1 * (y 0).val = _
    refine (congrArg (fun n => n * 1 + 1 * (y 0).val) e).trans ?_
    show (chosen m 0 (ix1 (grid0.coords t 0)) : BitVec 32).toNat * 1 + 1 * (y 0).val = _
    omega
  | ⟨1, _⟩ =>
    refine Eq.trans ?_ h1.symm
    have e := congrFun hi 1
    show cc0_transform_3 k0_off1_inb numel1_S1 (tbl m) (grid0.coords t) 1 * 512 + 1 * (y 1).val = _
    refine (congrArg (fun n => n * 512 + 1 * (y 1).val) e).trans ?_
    show (grid0.coords t 1).val * 512 + 1 * (y 1).val = _
    omega
  | ⟨2, _⟩ =>
    refine Eq.trans ?_ h2.symm
    have e := congrFun hi 2
    show cc0_transform_3 k0_off1_inb numel1_S1 (tbl m) (grid0.coords t) 2 * 1024 + 1 * (y 2).val = _
    refine (congrArg (fun n => n * 1024 + 1 * (y 2).val) e).trans ?_
    show 0 * 1024 + 1 * (y 2).val = _
    omega

/-- Where every word of the table names an expert, the selected blocks satisfy the pipeline's condition. -/
theorem ok_of_below (h : ∀ x, (chosen m 0 x : BitVec 32).toNat < 8) : Ok m :=
  ⟨fun i => wide_ok _ _ _ (index_1 (tbl m) i) (h _) (i 1).isLt, fun i => wide_ok _ _ _ (index_2 (tbl m) i) (h _) (i 1).isLt,
    fun i => narrow_ok _ _ _ (index_3 (tbl m) i) (h _) (i 1).isLt⟩

end Cert.KernelExpertIdeal.Run

end
-- ==== Proof.Expert.Reference.lean ====
/- The reference of the experts' feed-forward call, as a term over its arguments, and its gather read at an index. -/
module

public import proofs.«01_k».proof.Proof.Gen.ReferenceExpertIdeal.Run
public import Idealize.ShloMosaic.Lib.ValueIdxCore
public import Idealize.ShloMosaic.Lib.Pipeline.ValueKit

@[expose] public section

set_option maxRecDepth 16384

noncomputable section

open Idealize.ShloMosaic Idealize.ShloMosaic.TcCoe Idealize.SL.Sem

namespace Cert.ReferenceExpertIdeal.Term

open Cert.ReferenceExpertIdeal Cert.ReferenceExpertIdeal.Gen

/-- The experts' numbers as the gathers take them: a negative one counts from the end. -/
def rows (a0 : IVec S72 32) : IVec S72x1 32 :=
  broadcastInDim S72x1 ![0] bcast_S72_S72x1_0 (select (cmpi .slt a0 (broadcastInDim S72 ![] bcast_S_S72 (constantI S_ 32 0#32))) (addi a0 (broadcastInDim S72 ![] bcast_S_S72 (constantI S_ 32 8#32))) a0)

/-- Each chunk's slab of a widening weight. -/
def wide (a0 : IVec S72 32) (w : FVec Ideal S8x1024x3584 .bf16) : FVec Ideal S72x1024x3584 .bf16 :=
  Host.gather gather_S8x1024x3584_S72x1_S72x1024x3584_12_0_n_n_0_1_110243584 w (rows a0)

/-- Each chunk's slab of the narrowing weight. -/
def narrow (a0 : IVec S72 32) (w : FVec Ideal S8x3584x1024 .bf16) : FVec Ideal S72x3584x1024 .bf16 :=
  Host.gather gather_S8x3584x1024_S72x1_S72x3584x1024_12_0_n_n_0_1_135841024 w (rows a0)

/-- One of the two widening products. -/
def proj (a0 : IVec S72 32) (x : FVec Ideal S73728x1024 .bf16) (w : FVec Ideal S8x1024x3584 .bf16) : FVec Ideal S72x1024x3584 .f32 :=
  Host.dotGeneral dot_S72x1024x1024_S72x1024x3584_S72x1024x3584_2_1_1_2_0_0 none (shapeCast _ (extf .f32 x bitsLt_bf16_f32) shapeCasts_S73728x1024_S72x1024x1024) (extf .f32 (wide a0 w) bitsLt_bf16_f32)

/-- The gated hidden layer. -/
def act (a0 : IVec S72 32) (x : FVec Ideal S73728x1024 .bf16) (wg wu : FVec Ideal S8x1024x3584 .bf16) : FVec Ideal S72x1024x3584 .f32 :=
  mulf (mulf (proj a0 x wg) (Host.divf (broadcastInDim S72x1024x3584 ![] bcast_S_S72x1024x3584 (constant S_ .f32 0x3F800000#32)) (addf (broadcastInDim S72x1024x3584 ![] bcast_S_S72x1024x3584 (constant S_ .f32 0x3F800000#32)) (Host.exp (Host.negf (proj a0 x wg)))))) (proj a0 x wu)

/-- The narrowing product of every chunk. -/
def down (a0 : IVec S72 32) (x : FVec Ideal S73728x1024 .bf16) (wg wu : FVec Ideal S8x1024x3584 .bf16) (wd : FVec Ideal S8x3584x1024 .bf16) : FVec Ideal S72x1024x1024 .f32 :=
  Host.dotGeneral dot_S72x1024x3584_S72x3584x1024_S72x1024x1024_2_1_1_2_0_0 none (act a0 x wg wu) (extf .f32 (narrow a0 wd) bitsLt_bf16_f32)

/-- Which chunks are in use. -/
def live (a1 : IVec S1 32) : IVec S72 1 :=
  cmpi .slt (iotaInDim S72 32 0) (broadcastInDim S72 ![] bcast_S_S72 (shapeCast _ a1 shapeCasts_S1_S_))

/-- The rows of the chunks in use, and zeros in the others. -/
def result (a0 : IVec S72 32) (a1 : IVec S1 32) (x : FVec Ideal S73728x1024 .bf16) (wg wu : FVec Ideal S8x1024x3584 .bf16) (wd : FVec Ideal S8x3584x1024 .bf16) : FVec Ideal S73728x1024 .f32 :=
  shapeCast _ (select (broadcastInDim S72x1024x1024 ![0, 1, 2] bcast_S72x1x1_S72x1024x1024_0_1_2 (broadcastInDim S72x1x1 ![0] bcast_S72_S72x1x1_0 (live a1))) (down a0 x wg wu wd) (broadcastInDim S72x1024x1024 ![] bcast_S_S72x1024x1024 (constant S_ .f32 0x00000000#32))) shapeCasts_S72x1024x1024_S73728x1024

/-- The dimension numbers of a gather of whole slabs along the first of three axes. -/
abbrev slabDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slab `c` of such a gather is the operand's slab `e`, where `e` is the number the indices hold at `c`. -/
theorem gather_slab {α : Type} {N A B n : ℕ} (wf : GatherDims.WF ⟨3, ![N, A, B]⟩ ⟨2, ![n, 1]⟩ ⟨3, ![n, A, B]⟩ [1, 2] [0] [] [0] [] 1 ![1, A, B])
    (w : (⟨3, ![N, A, B]⟩ : Shape).Idx → α) (idx : IVec ⟨2, ![n, 1]⟩ 32) (c : Fin n) (j : Fin A) (k : Fin B) (e : Fin N)
    (he : (idx (ix2 c (0 : Fin 1))).toInt = e.val) :
    Host.gather (slabDims N A B n wf) w idx (ix3 c j k) = w (ix3 e j k) := by
  unfold Host.gather
  refine congrArg w (funext fun a => Fin.ext ?_)
  show (slabDims N A B n wf).start (ix3 c j k) idx a + (slabDims N A B n wf).batchCoord (ix3 c j k) a
    + (slabDims N A B n wf).offCoord (ix3 c j k) a = _
  rw [GatherDims.batchCoord_eq_zero _ _ _ List.not_mem_nil]
  have hm : ∀ b : Fin 3, b.val ≠ 0 → b ∉ ([0] : List (Fin 3)) := fun b hb h => hb (congrArg Fin.val (List.mem_singleton.mp h))
  obtain rfl | rfl | rfl : a = (0 : Fin 3) ∨ a = (1 : Fin 3) ∨ a = (2 : Fin 3) := by
    revert a; exact (by decide : ∀ a : Fin 3, a = 0 ∨ a = 1 ∨ a = 2)
  · rw [GatherDims.offCoord_eq_zero _ _ _ (fun h => ((GatherDims.mem_sKept _ _).mp h).1 (List.mem_singleton.mpr rfl))]
    unfold GatherDims.start
    rw [dif_pos (show (0 : Fin 3) ∈ (slabDims N A B n wf).startIndexMap from List.mem_singleton.mpr rfl)]
    have hsi : (slabDims N A B n wf).siIdx (ix3 c j k) ⟨List.idxOf (0 : Fin 3) (slabDims N A B n wf).startIndexMap,
        List.idxOf_lt_length_iff.2 (List.mem_singleton.mpr rfl)⟩ = ix2 c (0 : Fin 1) := by
      funext x
      refine Fin.ext ?_
      match x with
      | ⟨0, _⟩ => rfl
      | ⟨1, _⟩ => rfl
    rw [hsi, he]
    have h := e.isLt
    show min (e.val : ℤ).toNat (N - 1) + 0 + 0 = e.val
    omega
  · unfold GatherDims.start
    rw [dif_neg (show (1 : Fin 3) ∉ (slabDims N A B n wf).startIndexMap from hm 1 (by decide))]
    show 0 + 0 + j.val = j.val
    omega
  · unfold GatherDims.start
    rw [dif_neg (show (2 : Fin 3) ∉ (slabDims N A B n wf).startIndexMap from hm 2 (by decide))]
    show 0 + 0 + k.val = k.val
    omega

/-- A number below eight is taken as it is. -/
theorem rows_apply (a0 : IVec S72 32) (c : Fin 72) (e : Fin 8) (he : (a0 (ix1 c)).toNat = e.val) :
    (rows a0 (ix2 c (0 : Fin 1))).toInt = e.val := by
  have key : ∀ v : BitVec 32, v.toNat = e.val → (Scalar.select (IntOp.cmpi .slt v 0#32) (IntOp.addi v 8#32) v).toInt = e.val := by
    intro v hv
    have h8 := e.isLt
    have hz : IntOp.cmpi .slt v 0#32 ≠ 1 := by
      have hn : BitVec.slt v 0#32 = false := by
        rw [BitVec.slt_eq_decide, decide_eq_false_iff_not, BitVec.toInt_eq_toNat_cond, BitVec.toInt_eq_toNat_cond]
        simp only [BitVec.toNat_ofNat, Nat.reducePow, Nat.reduceMod]
        omega
      show BitVec.ofBool (BitVec.slt v 0#32) ≠ 1
      rw [hn]
      decide
    unfold Scalar.select
    rw [if_neg hz, BitVec.toInt_eq_toNat_cond]
    omega
  refine Eq.trans ?_ (key _ he)
  unfold rows
  pointwise

/-- Each chunk's slab is the chosen expert's. -/
theorem wide_apply (a0 : IVec S72 32) (w : FVec Ideal S8x1024x3584 .bf16) (c : Fin 72) (j : Fin 1024) (k : Fin 3584) (e : Fin 8)
    (he : (a0 (ix1 c)).toNat = e.val) : wide a0 w (ix3 c j k) = w (ix3 e j k) :=
  gather_slab _ w (rows a0) c j k e (rows_apply a0 c e he)
theorem narrow_apply (a0 : IVec S72 32) (w : FVec Ideal S8x3584x1024 .bf16) (c : Fin 72) (j : Fin 3584) (k : Fin 1024) (e : Fin 8)
    (he : (a0 (ix1 c)).toNat = e.val) : narrow a0 w (ix3 c j k) = w (ix3 e j k) :=
  gather_slab _ w (rows a0) c j k e (rows_apply a0 c e he)

/-- A row of a chunk in use is that row of the narrowing product, -/
theorem result_live (a0 : IVec S72 32) (a1 : IVec S1 32) (x : FVec Ideal S73728x1024 .bf16) (wg wu : FVec Ideal S8x1024x3584 .bf16) (wd : FVec Ideal S8x3584x1024 .bf16)
    (i : S73728x1024.Idx) (c : Fin 72) (p : Fin 1024) (hi : (i 0).val = c.val * 1024 + p.val)
    (h : IntOp.cmpi .slt (BitVec.ofNat 32 c.val) (a1 (ix1 (0 : Fin 1))) = 1#1) :
    result a0 a1 x wg wu wd i = down a0 x wg wu wd (ix3 c p (i 1)) := by
  pointwise [result, live]
  have e : (i 0).val / 1024 = c.val := by omega
  have e' : (i 0).val % 1024 = p.val := by omega
  simp only [e, e']
  exact if_pos h

/-- and a row of any other chunk is zero. -/
theorem result_dead (a0 : IVec S72 32) (a1 : IVec S1 32) (x : FVec Ideal S73728x1024 .bf16) (wg wu : FVec Ideal S8x1024x3584 .bf16) (wd : FVec Ideal S8x3584x1024 .bf16)
    (i : S73728x1024.Idx) (c : Fin 72) (p : Fin 1024) (hi : (i 0).val = c.val * 1024 + p.val)
    (h : ¬IntOp.cmpi .slt (BitVec.ofNat 32 c.val) (a1 (ix1 (0 : Fin 1))) = 1#1) :
    result a0 a1 x wg wu wd i = (0 : EReal) := by
  pointwise [result, live]
  have e : (i 0).val / 1024 = c.val := by omega
  simp only [e]
  exact if_neg h

/-- What hidden columns `f * 512` to `f * 512 + 511` add to row `p`, column `d` of chunk `c`. -/
def part (a0 : IVec S72 32) (x : FVec Ideal S73728x1024 .bf16) (wg wu : FVec Ideal S8x1024x3584 .bf16) (wd : FVec Ideal S8x3584x1024 .bf16)
    (c : Fin 72) (p d : Fin 1024) (f : Fin 7) : EReal :=
  ∑ k : Fin 512, act a0 x wg wu (ix3 c p ⟨f.val * 512 + k.val, by omega⟩) * narrow a0 wd (ix3 c ⟨f.val * 512 + k.val, by omega⟩ d)

/-- The narrowing product is the sum of the seven parts. -/
theorem down_eq (a0 : IVec S72 32) (x : FVec Ideal S73728x1024 .bf16) (wg wu : FVec Ideal S8x1024x3584 .bf16) (wd : FVec Ideal S8x3584x1024 .bf16)
    (c : Fin 72) (p d : Fin 1024) :
    down a0 x wg wu wd (ix3 c p d) = ∑ f : Fin 7, part a0 x wg wu wd c p d f := by
  unfold part
  pointwise [down]
  symm
  exact Fin.sum_mul_add_congr fun f k hl => rfl

end Cert.ReferenceExpertIdeal.Term

end
-- ==== Proof.Expert.Array.lean ====
/- What the experts' feed-forward kernel leaves in its result array: in a chunk in use, the sum of the seven blocks of hidden
   columns of the expert which the table names; in any other chunk, zeros. -/
module

public import proofs.«01_k».proof.Proof.Expert.Tables
public import proofs.«01_k».proof.Proof.Expert.Reference
public import Idealize.ShloMosaic.Lib.Pipeline.ValueKit

@[expose] public section

set_option maxRecDepth 16384

noncomputable section

namespace Cert.KernelExpertIdeal.Array

open Cert.KernelExpertIdeal Cert.KernelExpertIdeal.Gen Cert.KernelExpertIdeal.Run
open Idealize.ShloMosaic Idealize.ShloMosaic.TcCoe Idealize.SL.Sem
open Idealize.ShloMosaic.Pipeline (Dat)
open Cert.ReferenceExpertIdeal.Term (wide narrow proj act down result part wide_apply narrow_apply result_live result_dead down_eq)

theorem row_lt (c : Fin 72) (p : Fin 1024) : c.val * 1024 + p.val < 73728 := by omega

/-- The block product of one grid point, from what its four input blocks hold. -/
theorem step (a0 : IVec S72 32) (x : FVec Ideal S73728x1024 .bf16) (wg wu : FVec Ideal S8x1024x3584 .bf16) (wd : FVec Ideal S8x3584x1024 .bf16)
    (ch : Fin 72) (f : Fin 7) (x0 : FVec Ideal S1024x1024 .bf16) (x1 x2 : FVec Ideal S1x1024x512 .bf16) (x3 : FVec Ideal S1x512x1024 .bf16)
    (h0 : ∀ (q j : Fin 1024), x0 (ix2 q j) = x (ix2 ⟨ch.val * 1024 + q.val, by omega⟩ j))
    (h1 : ∀ (j : Fin 1024) (k : Fin 512), x1 (ix3 0 j k) = wide a0 wg (ix3 ch j ⟨f.val * 512 + k.val, by omega⟩))
    (h2 : ∀ (j : Fin 1024) (k : Fin 512), x2 (ix3 0 j k) = wide a0 wu (ix3 ch j ⟨f.val * 512 + k.val, by omega⟩))
    (h3 : ∀ (k : Fin 512) (d : Fin 1024), x3 (ix3 0 k d) = narrow a0 wd (ix3 ch ⟨f.val * 512 + k.val, by omega⟩ d))
    (y : S1024x1024.Idx) :
    k0_pay1 (F := Ideal) x0 x1 x2 x3 y = part a0 x wg wu wd ch (y 0) (y 1) f := by
  unfold part
  pointwise [k0_pay1, act, proj]
  have e0 : ∀ j : Fin 1024, x0 (ix2 (y 0) j) = x (ix2 ⟨ch.val * 1024 + (y 0).val, row_lt ch (y 0)⟩ j) := fun j => h0 (y 0) j
  have e3 : ∀ k : Fin 512, x3 (ix3 0 k (y 1)) = narrow a0 wd (ix3 ch ⟨f.val * 512 + k.val, by omega⟩ (y 1)) := fun k => h3 k (y 1)
  simp only [e0, h1, h2, e3, zero_sub]

variable (m : (ℓ : Loc nD τ sig) → Buf (Elt Ideal) ℓ)

/-- The six arguments. -/
abbrev arg0 (c : Dev nD) : IVec S72 32 := m ((c : Thread nD τ).loc main_arg0)
abbrev arg1 (c : Dev nD) : IVec S1 32 := m ((c : Thread nD τ).loc main_arg1)
abbrev arg2 (c : Dev nD) : FVec Ideal S73728x1024 .bf16 := m ((c : Thread nD τ).loc main_arg2)
abbrev arg3 (c : Dev nD) : FVec Ideal S8x1024x3584 .bf16 := m ((c : Thread nD τ).loc main_arg3)
abbrev arg4 (c : Dev nD) : FVec Ideal S8x1024x3584 .bf16 := m ((c : Thread nD τ).loc main_arg4)
abbrev arg5 (c : Dev nD) : FVec Ideal S8x3584x1024 .bf16 := m ((c : Thread nD τ).loc main_arg5)

/-- What a block of hidden columns adds, over the arguments; zero past the last block. -/
def share (c : Dev nD) (ch : Fin 72) (p d : Fin 1024) (f : ℕ) : EReal :=
  if h : f < 7 then part (arg0 m c) (arg2 m c) (arg3 m c) (arg4 m c) (arg5 m c) ch p d ⟨f, h⟩ else 0

theorem share_val (c : Dev nD) (ch : Fin 72) (p d : Fin 1024) (f : Fin 7) :
    share m c ch p d f.val = part (arg0 m c) (arg2 m c) (arg3 m c) (arg4 m c) (arg5 m c) ch p d f := by
  unfold share
  rw [dif_pos f.isLt]

/-- The block product of one grid point. -/
theorem point (hb : ∀ x, (chosen m 0 x : BitVec 32).toNat < 8) (hO : Ok m) (c : Dev nD) (t : Fin (cfgM m hO).N) (y : S1024x1024.Idx)
    (ch : Fin 72) (hch : ch.val = t.val / 7) :
    k0_pay1 (F := Ideal) (blk m hO c 0 t) (blk m hO c 1 t) (blk m hO c 2 t) (blk m hO c 3 t) y = share m c ch (y 0) (y 1) (t.val % 7) := by
  obtain rfl : c = 0 := Subsingleton.elim _ _
  have hf : t.val % 7 < 7 := Nat.mod_lt _ (by decide)
  have hco : ch = grid0.coords t 0 := Fin.ext (hch.trans (coords_val t).1.symm)
  have hx : (chosen m 0 (ix1 (grid0.coords t 0)) : BitVec 32).toNat = (arg0 m 0 (ix1 ch)).toNat := by rw [hco]; rfl
  have he : (arg0 m 0 (ix1 ch)).toNat < 8 := hb _
  unfold share
  rw [dif_pos hf]
  refine step _ _ _ _ _ ch ⟨t.val % 7, hf⟩ _ _ _ _ (fun q j => ?_) (fun j k => ?_) (fun j k => ?_) (fun k d => ?_) y
  · exact blk_0 m hO 0 t (ix2 q j) _ (by show ch.val * 1024 + q.val = _; rw [hch]; rfl) rfl
  · rw [wide_apply _ _ ch j _ ⟨_, he⟩ rfl]
    exact blk_1 m hO 0 t (ix3 0 j k) _ hx.symm rfl rfl
  · rw [wide_apply _ _ ch j _ ⟨_, he⟩ rfl]
    exact blk_2 m hO 0 t (ix3 0 j k) _ hx.symm rfl rfl
  · rw [narrow_apply _ _ ch _ d ⟨_, he⟩ rfl]
    exact blk_3 m hO 0 t (ix3 0 k d) _ hx.symm rfl rfl

/-- The scratch buffer after any grid point: the blocks of hidden columns of the chunk so far. -/
theorem acc_eq (hb : ∀ x, (chosen m 0 x : BitVec 32).toNat < 8) (hO : Ok m) (c : Dev nD) : ∀ (n : ℕ) (hn : n < (cfgM m hO).N) (y : S1024x1024.Idx)
    (ch : Fin 72), ch.val = n / 7 → acc m hO c n hn y = ∑ f ∈ Finset.range (n % 7 + 1), share m c ch (y 0) (y 1) f
  | 0, hn, y, ch, hch => by
    refine (congrFun (acc_first m hO c ⟨0, hn⟩ rfl) y).trans ?_
    pointwise [k0_pay2]
    rw [Finset.sum_range_one]
    exact point m hb hO c ⟨0, hn⟩ y ch hch
  | n + 1, hn, y, ch, hch => by
    by_cases h0 : (n + 1) % 7 = 0
    · refine (congrFun (acc_first m hO c ⟨n + 1, hn⟩ h0) y).trans ?_
      pointwise [k0_pay2]
      have e := point m hb hO c ⟨n + 1, hn⟩ y ch hch
      rw [h0, Finset.sum_range_one]
      rw [show (⟨n + 1, hn⟩ : Fin (cfgM m hO).N).val % 7 = 0 from h0] at e
      exact e
    · refine (congrFun (acc_later m hO c ⟨n + 1, hn⟩ h0 n (Nat.lt_of_succ_lt hn) rfl) y).trans ?_
      pointwise [k0_pay3]
      have e := point m hb hO c ⟨n + 1, hn⟩ y ch hch
      have e' := acc_eq hb hO c n (Nat.lt_of_succ_lt hn) y ch (by omega)
      have hm : (n + 1) % 7 = n % 7 + 1 := by omega
      rw [hm, Finset.sum_range_succ _ (n % 7 + 1)]
      rw [show (⟨n + 1, hn⟩ : Fin (cfgM m hO).N).val % 7 = n % 7 + 1 from hm] at e
      exact congrArg₂ (· + ·) e' e

/-- A chunk is in use just where the reference's comparison says so. -/
theorem used_iff (c : Dev nD) (t : Fin grid0.N) (ch : Fin 72) (hch : ch.val = t.val / 7) :
    used m c t ↔ IntOp.cmpi .slt (BitVec.ofNat 32 ch.val) (arg1 m c (ix1 (0 : Fin 1))) = 1#1 := by
  obtain rfl : c = 0 := Subsingleton.elim _ _
  have hw : word 0 (counts m 0) = arg1 m 0 (ix1 (0 : Fin 1)) := congrArg (arg1 m 0) (funext fun a => Fin.ext (by
    match a with
    | ⟨0, _⟩ => rfl))
  have hz : ∀ b : BitVec 1, Scalar.cmpi .ne (Scalar.extui b : BitVec 32) 0#32 = 1#1 ↔ b = 1#1 := by decide
  rw [hch, ← (coords_val t).1, ← hw]
  exact hz _

/-- The written-back blocks cover the result. -/
theorem covers (hO : Ok m) : ((cfgM m hO).win 4).Covers := by
  refine ⟨(by decide : ∀ a, 0 < S1024x1024.size a), fun β => ?_⟩
  obtain ⟨b, hb⟩ : ∃ b : ℕ, b = (β ⟨0, Nat.zero_lt_two⟩).val := ⟨_, rfl⟩
  have hb' : b < (73728 + 1024 - 1) / 1024 := hb ▸ (β ⟨0, Nat.zero_lt_two⟩).isLt
  obtain ⟨d, hd⟩ : ∃ d : ℕ, d = (β ⟨1, Nat.one_lt_two⟩).val := ⟨_, rfl⟩
  have hd' : d < (1024 + 1024 - 1) / 1024 := hd ▸ (β ⟨1, Nat.one_lt_two⟩).isLt
  have hN : b * 7 + 6 < grid0.N := by rw [N_0]; omega
  refine ⟨⟨_, hN⟩, (flush_iff m hO _).mpr (by show (b * 7 + 6) % 7 = 6; omega), fun a => ⟨?_, Or.inl rfl⟩⟩
  match a with
  | ⟨0, _⟩ =>
    refine Eq.trans ?_ hb
    show (BitVec.ofNat 32 (grid0.coords ⟨_, hN⟩ 0).val).toNat = b
    rw [(coords_val ⟨_, hN⟩).1, BitVec.toNat_ofNat]
    show (b * 7 + 6) / 7 % 2 ^ 32 = _
    omega
  | ⟨1, _⟩ =>
    refine Eq.trans ?_ hd
    show 0 = d
    omega

/-- What a chunk's last point stores is the reference's block of that chunk. -/
theorem last (hb : ∀ x, (chosen m 0 x : BitVec 32).toNat < 8) (hO : Ok m) (c : Dev nD) (t : Fin (cfgM m hO).N) (h6 : t.val % 7 = 6)
    (y : S1024x1024.Idx) (i : S73728x1024.Idx) (hi0 : (i 0).val = t.val / 7 * 1024 + (y 0).val) (hi1 : (i 1).val = (y 1).val) :
    out m hO c t y = result (arg0 m c) (arg1 m c) (arg2 m c) (arg3 m c) (arg4 m c) (arg5 m c) i := by
  have ht : t.val < 504 := Nat.lt_of_lt_of_eq t.isLt N_0
  have hch : t.val / 7 < 72 := by omega
  have hy : (y 1 : Fin 1024) = i 1 := Fin.ext hi1.symm
  obtain ⟨ch, hc⟩ : ∃ ch : Fin 72, ch.val = t.val / 7 := ⟨⟨_, hch⟩, rfl⟩
  have hu := used_iff m c t ch hc
  have hi : (i 0).val = ch.val * 1024 + (y 0 : Fin 1024).val := by rw [hc]; exact hi0
  unfold out
  by_cases h : used m c t
  · rw [if_pos h]
    refine (acc_eq m hb hO c t.val t.isLt y ch hc).trans ?_
    refine Eq.trans ?_ (result_live _ _ _ _ _ _ _ ch (y 0) hi (hu.mp h)).symm
    refine Eq.trans ?_ (down_eq _ _ _ _ _ _ _ _).symm
    rw [h6, Finset.sum_range]
    refine Finset.sum_congr rfl fun f _ => ?_
    exact (share_val m c ch (y 0) (y 1) f).trans (congrArg (fun d => part (arg0 m c) (arg2 m c) (arg3 m c) (arg4 m c) (arg5 m c) ch (y 0) d f) hy)
  · rw [if_neg h]
    refine Eq.trans ?_ (result_dead _ _ _ _ _ _ _ ch (y 0) hi (fun h' => h (hu.mpr h'))).symm
    pointwise [k0_pay4]

/-- The place of the output block's index `y` in the result array. -/
def place (hO : Ok m) (t : Fin (cfgM m hO).N) (y : S1024x1024.Idx) : S73728x1024.Idx := (((cfgM m hO).win 4).blk t).view.emb y

theorem place_val (hO : Ok m) (t : Fin (cfgM m hO).N) (y : S1024x1024.Idx) :
    (place m hO t y 0).val = t.val / 7 * 1024 + (y 0).val ∧ (place m hO t y 1).val = (y 1).val := by
  have ht : t.val < 504 := Nat.lt_of_lt_of_eq t.isLt N_0
  constructor
  · show (BitVec.ofNat 32 (grid0.coords t 0).val).toNat * 1024 + 1 * (y 0).val = t.val / 7 * 1024 + (y 0).val
    rw [(coords_val t).1, BitVec.toNat_ofNat]
    omega
  · show 0 * 1024 + 1 * (y 1).val = (y 1).val
    omega

/-- The result array after the run. -/
theorem final (hb : ∀ x, (chosen m 0 x : BitVec 32).toNat < 8) (hO : Ok m) (c : Dev nD) : (dats m hO 0 c).arrAt 4 (cfgM m hO).N
    = result (arg0 m c) (arg1 m c) (arg2 m c) (arg3 m c) (arg4 m c) (arg5 m c) := by
  refine (dats m hO 0 c).arrAt_eq_of_covers 4 _ (covers m hO) fun t hf (y : S1024x1024.Idx) => ?_
  refine Eq.trans ?_ (last m hb hO c t ((flush_iff m hO t).mp hf) y (place m hO t y) (place_val m hO t y).1 (place_val m hO t y).2)
  show (dats m hO 0 c).after 4 t y = out m hO c t y
  rw [after_4]

end Cert.KernelExpertIdeal.Array

end
-- ==== Proof.ExpertBits.Tables.lean ====
/- The blocks which the table of experts selects, for the compiled program: the same as the module of this name over the
   other copy of the program text. Where each of the table's words names one of the eight experts, every selected block
   lies in its array. -/
module

public import proofs.«01_k».proof.Proof.ExpertBits.Launch
public import Idealize.ShloMosaic.Lib.ValueIdxCore

@[expose] public section

set_option maxRecDepth 16384

noncomputable section

namespace Cert.KernelExpert.Run

open Cert.KernelExpert Cert.KernelExpert.Gen
open Idealize.ShloMosaic Idealize.ShloMosaic.TcCoe

variable {F : FTy → Type} [FloatOps F]

/-- The word an index map loads at a grid point is the table's word of the point's chunk. -/
theorem at_eq (pf : pre0.Contents (Elt F)) (i : grid0.Coords) :
    pf.at 0 (Rect.unit (s := S72) (k0_off1 i) S1.size (k0_off1_inb i)) numel1_S1 = pf 0 (ix1 (i 0)) := by
  refine congrArg (pf 0) (funext fun a => Fin.ext ?_)
  have h : (i 0).val < 72 := (i 0).isLt
  match a with
  | ⟨0, _⟩ =>
    have e : (BitVec.ofNat 32 (i 0).val).toNat = (i 0).val := by
      rw [BitVec.toNat_ofNat]
      omega
    exact e

/-- The second coordinate of a grid point survives its trip through a word. -/
theorem word_val (i : grid0.Coords) : (BitVec.ofNat 32 (i 1).val).toNat = (i 1).val := by
  have h : (i 1).val < 7 := (i 1).isLt
  rw [BitVec.toNat_ofNat]
  omega

/-- The blocks of the three weights at a grid point: the expert which the table names, and the point's hidden columns. -/
theorem index_1 (pf : pre0.Contents (Elt F)) (i : grid0.Coords) :
    cc0_transform_1 k0_off1_inb numel1_S1 pf i = ![(show BitVec 32 from pf 0 (ix1 (i 0))).toNat, 0, (i 1).val] :=
  congrArg₂ (fun (v : BitVec 32) (b : ℕ) => ![v.toNat, 0, b]) (at_eq pf i) (word_val i)
theorem index_2 (pf : pre0.Contents (Elt F)) (i : grid0.Coords) :
    cc0_transform_2 k0_off1_inb numel1_S1 pf i = ![(show BitVec 32 from pf 0 (ix1 (i 0))).toNat, 0, (i 1).val] :=
  congrArg₂ (fun (v : BitVec 32) (b : ℕ) => ![v.toNat, 0, b]) (at_eq pf i) (word_val i)
theorem index_3 (pf : pre0.Contents (Elt F)) (i : grid0.Coords) :
    cc0_transform_3 k0_off1_inb numel1_S1 pf i = ![(show BitVec 32 from pf 0 (ix1 (i 0))).toNat, (i 1).val, 0] :=
  congrArg₂ (fun (v : BitVec 32) (b : ℕ) => ![v.toNat, b, 0]) (at_eq pf i) (word_val i)

/-- A block of one of the widening weights: in its array, and whole words. -/
theorem wide_ok (ix : Fin 3 → ℕ) (e b : ℕ) (h : ix = ![e, 0, b]) (he : e < 8) (hb : b < 7) :
    ∃ h : (∀ a, (ix a + 1) * S1x1024x512.size a ≤ S8x1024x3584.size a), EltTy.bits .bf16 = 32 ∨ (Rect.block (s := S8x1024x3584) S1x1024x512.size ix h).WholeWords (EltTy.packing .bf16) := by
  subst h
  refine ⟨fun a => ?_, Or.inr (Or.inr ⟨by decide, rfl, rfl, rfl⟩)⟩
  match a with
  | ⟨0, _⟩ => show (e + 1) * 1 ≤ 8; omega
  | ⟨1, _⟩ => show (0 + 1) * 1024 ≤ 1024; omega
  | ⟨2, _⟩ => show (b + 1) * 512 ≤ 3584; omega

/-- A block of the narrowing weight, likewise. -/
theorem narrow_ok (ix : Fin 3 → ℕ) (e b : ℕ) (h : ix = ![e, b, 0]) (he : e < 8) (hb : b < 7) :
    ∃ h : (∀ a, (ix a + 1) * S1x512x1024.size a ≤ S8x3584x1024.size a), EltTy.bits .bf16 = 32 ∨ (Rect.block (s := S8x3584x1024) S1x512x1024.size ix h).WholeWords (EltTy.packing .bf16) := by
  subst h
  refine ⟨fun a => ?_, Or.inr (Or.inl (Or.inr ⟨by decide, rfl, Or.inl ⟨?_, ⟨256, rfl⟩⟩⟩))⟩
  · match a with
    | ⟨0, _⟩ => show (e + 1) * 1 ≤ 8; omega
    | ⟨1, _⟩ => show (b + 1) * 512 ≤ 3584; omega
    | ⟨2, _⟩ => show (0 + 1) * 1024 ≤ 1024; omega
  · show 2 ∣ b * 512
    omega

variable (m : (ℓ : Loc nD τ sig) → Buf (Elt F) ℓ)

/-- Where every word of the table names an expert, the selected blocks satisfy the pipeline's condition. -/
theorem ok_of_below (h : ∀ x, (chosen m 0 x : BitVec 32).toNat < 8) : Ok m :=
  ⟨fun i => wide_ok _ _ _ (index_1 (tbl m) i) (h _) (i 1).isLt, fun i => wide_ok _ _ _ (index_2 (tbl m) i) (h _) (i 1).isLt,
    fun i => narrow_ok _ _ _ (index_3 (tbl m) i) (h _) (i 1).isLt⟩

end Cert.KernelExpert.Run

end
-- ==== Proof.lean ====
/- The proof of the claims. Every call has a frame claim for the kernel as printed, for its idealization and for its
   reference, and the claim that the idealization's result is the reference's. -/
module

public import proofs.«01_k».proof.Defs
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Ffn.Array
public import proofs.«01_k».proof.Proof.Gen.KernelOut.Frame
public import proofs.«01_k».proof.Proof.Gen.KernelOutIdeal.Value
public import proofs.«01_k».proof.Proof.Gen.ReferenceOutIdeal.Run
public import proofs.«01_k».proof.Proof.Out.Array
public import proofs.«01_k».proof.Proof.Gen.KernelIn.Frame
public import proofs.«01_k».proof.Proof.Gen.KernelInIdeal.Value
public import proofs.«01_k».proof.Proof.Gen.ReferenceInIdeal.Run
public import proofs.«01_k».proof.Proof.In.Array
public import proofs.«01_k».proof.Proof.Gen.KernelCombine.Frame
public import proofs.«01_k».proof.Proof.Gen.KernelCombineIdeal.Value
public import proofs.«01_k».proof.Proof.Gen.ReferenceCombineIdeal.Run
public import proofs.«01_k».proof.Proof.Combine.Array
public import proofs.«01_k».proof.Proof.Gen.KernelInSsd.Frame
public import proofs.«01_k».proof.Proof.Gen.KernelInSsdIdeal.Value
public import proofs.«01_k».proof.Proof.Gen.ReferenceInSsdIdeal.Run
public import proofs.«01_k».proof.Proof.InSsd.Array
public import proofs.«01_k».proof.Proof.Kv.Array
public import proofs.«01_k».proof.Proof.Gen.KernelKv.Frame
public import proofs.«01_k».proof.Proof.Gen.KernelKvIdeal.Value
public import proofs.«01_k».proof.Proof.Gen.ReferenceKvIdeal.Run
public import proofs.«01_k».proof.Proof.Gen.KernelMem.Frame
public import proofs.«01_k».proof.Proof.Gen.KernelMemIdeal.Value
public import proofs.«01_k».proof.Proof.Gen.ReferenceMemIdeal.Run
public import proofs.«01_k».proof.Proof.Mem.Array
public import proofs.«01_k».proof.Proof.Gen.KernelExpert.Launch
public import proofs.«01_k».proof.Proof.Gen.KernelExpert.Skeleton
public import proofs.«01_k».proof.Proof.Gen.KernelExpertIdeal.Launch
public import proofs.«01_k».proof.Proof.Gen.KernelExpertIdeal.Skeleton
public import proofs.«01_k».proof.Proof.Gen.ReferenceExpertIdeal.Run
public import proofs.«01_k».proof.Proof.Expert.Range
public import proofs.«01_k».proof.Proof.Expert.Array
public import proofs.«01_k».proof.Proof.ExpertBits.Tables
public import Idealize.ShloMosaic.Adequacy
public import Idealize.ShloMosaic.Init
public import Idealize.ShloMosaic.Lib.Quiescent

@[expose] public section

noncomputable section

namespace Cert.Proof

open Idealize.ShloMosaic Idealize.SL.Sem

/-- The reference of the Ffn call terminates with its counters at zero and its arguments unchanged. -/
theorem quiescent_ReferenceFfnIdeal : quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

/-- The idealized Ffn call and its reference leave the same result. -/
theorem algebraic_KernelFfnIdeal_ReferenceFfnIdeal : algebraic_KernelFfnIdeal_ReferenceFfnIdeal := by
  intro m ρ m' ρ' _ hagree
  refine ⟨_, Cert.KernelFfnIdeal.Value.run_blocks (F := Ideal) m ρ, ?_⟩
  refine (θ_run Cert.ReferenceFfnIdeal.defs _ _).mono (fun _ h c => ⟨?_, (h c).2⟩) (Cert.ReferenceFfnIdeal.Value.run (F := Ideal) m' ρ')
  obtain ⟨h0, h1, h2, h3, h4⟩ := hagree c
  rw [(h c).1, h0, h1, h2, h3, h4]
  exact (Cert.KernelFfnIdeal.Array.final m c).symm

/-- The reference of the Out call terminates with its counters at zero and its arguments unchanged. -/
theorem quiescent_ReferenceOutIdeal : quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The idealized Out call and its reference leave the same result. -/
theorem algebraic_KernelOutIdeal_ReferenceOutIdeal : algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨?_, (h c).2⟩) (Cert.ReferenceOutIdeal.Value.run (F := Ideal) m' ρ')
  obtain ⟨h0, h1, h2, h3⟩ := hagree c
  rw [(h c).1, h0, h1, h2, h3]
  exact (Cert.KernelOutIdeal.Array.final m c).symm

/-- The reference of the In call terminates with its counters at zero and its arguments unchanged. -/
theorem quiescent_ReferenceInIdeal : quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The idealized In call and its reference leave the same result. -/
theorem algebraic_KernelInIdeal_ReferenceInIdeal : algebraic_KernelInIdeal_ReferenceInIdeal := by
  intro m ρ m' ρ' _ hagree
  refine ⟨_, Cert.KernelInIdeal.Value.run_blocks (F := Ideal) m ρ, ?_⟩
  refine (θ_run Cert.ReferenceInIdeal.defs _ _).mono (fun _ h c => ⟨?_, (h c).2⟩) (Cert.ReferenceInIdeal.Value.run (F := Ideal) m' ρ')
  obtain ⟨h0, h1, h2⟩ := hagree c
  rw [(h c).1, h0, h1, h2]
  exact (Cert.KernelInIdeal.Array.final m c).symm

/-- The reference of the Combine call terminates with its counters at zero and its arguments unchanged. -/
theorem quiescent_ReferenceCombineIdeal : quiescent_ReferenceCombineIdeal := fun m ρ _ =>
  (θ_run Cert.ReferenceCombineIdeal.defs _ _).mono (fun r h => ⟨fun c => (h c).2, sem_eq_zero_of_no_sems (by decide) r.2⟩)
    (Cert.ReferenceCombineIdeal.Value.run (F := Ideal) m ρ)

/-- The idealized Combine call and its reference leave the same result. -/
theorem algebraic_KernelCombineIdeal_ReferenceCombineIdeal : algebraic_KernelCombineIdeal_ReferenceCombineIdeal := by
  intro m ρ m' ρ' _ hagree
  refine ⟨_, Cert.KernelCombineIdeal.Value.run_blocks (F := Ideal) m ρ, ?_⟩
  refine (θ_run Cert.ReferenceCombineIdeal.defs _ _).mono (fun _ h c => ⟨?_, (h c).2⟩) (Cert.ReferenceCombineIdeal.Value.run (F := Ideal) m' ρ')
  obtain ⟨h0, h1, h2, h3, h4, h5⟩ := hagree c
  rw [(h c).1, h0, h1, h2, h3, h4, h5]
  exact (Cert.KernelCombineIdeal.Array.final m c).symm

/-- Where the precondition holds, every word of the table of experts names an expert, -/
theorem below_KernelExpert [Cert.Pre_table_in_range.Facts] (m) (h : Pre_KernelExpert m) :
    ∀ x, (Cert.KernelExpert.Run.chosen m 0 x : BitVec 32).toNat < 8 :=
  Cert.Pre_table_in_range.below _ _ _ _ _ _ (h 0)
theorem below_KernelExpertIdeal [Cert.Pre_table_in_range.Facts] (m) (h : Pre_KernelExpertIdeal m) :
    ∀ x, (Cert.KernelExpertIdeal.Run.chosen m 0 x : BitVec 32).toNat < 8 :=
  Cert.Pre_table_in_range.below _ _ _ _ _ _ (h 0)

/-- and the Expert call terminates with its counters at zero and its arguments unchanged; -/
theorem quiescent_KernelExpert [Cert.Pre_table_in_range.Facts] : quiescent_KernelExpert := fun m ρ h =>
  (θ_run Cert.KernelExpert.defs _ _).mono (fun _ h => ⟨fun c => (h.1 c).1, h.2⟩)
    (Cert.KernelExpert.Run.run (F := Bits) m ρ (Cert.KernelExpert.Run.ok_of_below m (below_KernelExpert m h)))

/-- its idealization does; -/
theorem quiescent_KernelExpertIdeal [Cert.Pre_table_in_range.Facts] : quiescent_KernelExpertIdeal := fun m ρ h =>
  (θ_run Cert.KernelExpertIdeal.defs _ _).mono (fun _ h => ⟨fun c => (h.1 c).1, h.2⟩)
    (Cert.KernelExpertIdeal.Run.run (F := Ideal) m ρ (Cert.KernelExpertIdeal.Run.ok_of_below m (below_KernelExpertIdeal m h)))

/-- its reference does, with no precondition; -/
theorem quiescent_ReferenceExpertIdeal : quiescent_ReferenceExpertIdeal := fun m ρ _ =>
  (θ_run Cert.ReferenceExpertIdeal.defs _ _).mono (fun r h => ⟨fun c => (h c).2, sem_eq_zero_of_no_sems (by decide) r.2⟩)
    (Cert.ReferenceExpertIdeal.Value.run (F := Ideal) m ρ)

/-- and with one; -/
theorem quiescent_ReferenceExpertIdeal_pre [Cert.Pre_table_in_range.Facts] : quiescent_ReferenceExpertIdeal_pre_table_in_range :=
  fun m ρ _ => quiescent_ReferenceExpertIdeal m ρ trivial

/-- and the idealized Expert call and its reference leave the same result. -/
theorem algebraic_KernelExpertIdeal_ReferenceExpertIdeal [Cert.Pre_table_in_range.Facts] : algebraic_KernelExpertIdeal_ReferenceExpertIdeal := by
  intro m ρ m' ρ' hpre hagree
  have hb := below_KernelExpertIdeal m hpre
  have hO := Cert.KernelExpertIdeal.Run.ok_of_below m hb
  refine ⟨_, (θ_run Cert.KernelExpertIdeal.defs _ _).mono (fun _ h c => ⟨(h.1 c).2, (h.1 c).1⟩) (Cert.KernelExpertIdeal.Run.run (F := Ideal) m ρ hO), ?_⟩
  refine (θ_run Cert.ReferenceExpertIdeal.defs _ _).mono (fun _ h c => ⟨?_, (h c).2⟩) (Cert.ReferenceExpertIdeal.Value.run (F := Ideal) m' ρ')
  obtain ⟨h0, h1, h2, h3, h4, h5⟩ := hagree c
  rw [(h c).1, h0, h1, h2, h3, h4, h5]
  exact (Cert.KernelExpertIdeal.Array.final m hb hO c).symm

/-- The reference of the InSsd call terminates with its counters at zero and its arguments unchanged. -/
theorem quiescent_ReferenceInSsdIdeal : quiescent_ReferenceInSsdIdeal := fun m ρ _ =>
  (θ_run Cert.ReferenceInSsdIdeal.defs _ _).mono (fun r h => ⟨fun c => (h c).2, sem_eq_zero_of_no_sems (by decide) r.2⟩)
    (Cert.ReferenceInSsdIdeal.Value.run (F := Ideal) m ρ)

/-- The idealized InSsd call and its reference leave the same result. -/
theorem algebraic_KernelInSsdIdeal_ReferenceInSsdIdeal : algebraic_KernelInSsdIdeal_ReferenceInSsdIdeal := by
  intro m ρ m' ρ' _ hagree
  refine ⟨_, Cert.KernelInSsdIdeal.Value.run_blocks (F := Ideal) m ρ, ?_⟩
  refine (θ_run Cert.ReferenceInSsdIdeal.defs _ _).mono (fun _ h c => ⟨?_, (h c).2⟩) (Cert.ReferenceInSsdIdeal.Value.run (F := Ideal) m' ρ')
  obtain ⟨h0, h1, h2⟩ := hagree c
  rw [(h c).1, h0, h1, h2]
  exact (Cert.KernelInSsdIdeal.Array.final m c).symm

/-- The reference of the Kv call terminates with its counters at zero and its arguments unchanged. -/
theorem quiescent_ReferenceKvIdeal : quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

/-- The idealized Kv call and its reference leave the same result. -/
theorem algebraic_KernelKvIdeal_ReferenceKvIdeal : algebraic_KernelKvIdeal_ReferenceKvIdeal := by
  intro m ρ m' ρ' _ hagree
  refine ⟨_, Cert.KernelKvIdeal.Value.run_blocks (F := Ideal) m ρ, ?_⟩
  refine (θ_run Cert.ReferenceKvIdeal.defs _ _).mono (fun _ h c => ⟨?_, (h c).2⟩) (Cert.ReferenceKvIdeal.Value.run (F := Ideal) m' ρ')
  obtain ⟨h0, h1, h2⟩ := hagree c
  rw [(h c).1, h0, h1, h2]
  exact (Cert.KernelKvIdeal.Array.final m c).symm

/-- The idealized Mem call terminates with its counters at zero and its arguments unchanged from real queries and keys too. -/
theorem quiescent_KernelMemIdeal_pre [Cert.Pre_finite_qk.Facts] : quiescent_KernelMemIdeal_pre_finite_qk :=
  fun m ρ _ => Cert.KernelMemIdeal.Gen.frame m ρ

/-- The reference of the Mem call terminates with its counters at zero and its arguments unchanged, -/
theorem quiescent_ReferenceMemIdeal : quiescent_ReferenceMemIdeal := fun m ρ _ =>
  (θ_run Cert.ReferenceMemIdeal.defs _ _).mono (fun r h => ⟨fun c => (h c).2, sem_eq_zero_of_no_sems (by decide) r.2⟩)
    (Cert.ReferenceMemIdeal.Value.run (F := Ideal) m ρ)

/-- from real queries and keys too, -/
theorem quiescent_ReferenceMemIdeal_pre [Cert.Pre_finite_qk.Facts] : quiescent_ReferenceMemIdeal_pre_finite_qk :=
  fun m ρ _ => quiescent_ReferenceMemIdeal m ρ trivial

/-- and from real queries and keys the idealized Mem call and its reference leave the same result. -/
theorem algebraic_KernelMemIdeal_ReferenceMemIdeal [Cert.Pre_finite_qk.Facts] : algebraic_KernelMemIdeal_ReferenceMemIdeal_pre_finite_qk := by
  intro m ρ m' ρ' hpre hagree
  refine ⟨_, Cert.KernelMemIdeal.Value.run_blocks (F := Ideal) m ρ, ?_⟩
  refine (θ_run Cert.ReferenceMemIdeal.defs _ _).mono (fun _ h c => ⟨?_, (h c).2⟩) (Cert.ReferenceMemIdeal.Value.run (F := Ideal) m' ρ')
  obtain ⟨h0, h1⟩ := hagree c
  rw [(h c).1, h0, h1]
  exact (Cert.KernelMemIdeal.Array.final m c (hpre c)).symm

/-- All claims: the frames of every call, that idealizing changes nothing, and the eight value equations. -/
theorem claim : Cert.Claim := ⟨Cert.KernelFfn.Gen.facts, Cert.KernelFfnIdeal.Gen.facts, Cert.ReferenceFfnIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelCombine.Gen.facts, Cert.KernelCombineIdeal.Gen.facts, Cert.ReferenceCombineIdeal.Gen.facts,
  Cert.KernelExpert.Gen.facts, Cert.KernelExpertIdeal.Gen.facts, Cert.ReferenceExpertIdeal.Gen.facts,
  Cert.KernelInSsd.Gen.facts, Cert.KernelInSsdIdeal.Gen.facts, Cert.ReferenceInSsdIdeal.Gen.facts,
  Cert.KernelKv.Gen.facts, Cert.KernelKvIdeal.Gen.facts, Cert.ReferenceKvIdeal.Gen.facts,
  Cert.KernelMem.Gen.facts, Cert.KernelMemIdeal.Gen.facts, Cert.ReferenceMemIdeal.Gen.facts, Cert.Pre_table_in_range.facts, Cert.Pre_finite_qk.facts,
  fun m ρ _ => Cert.KernelFfn.Gen.frame m ρ, fun m ρ _ => Cert.KernelFfnIdeal.Gen.frame m ρ, quiescent_ReferenceFfnIdeal,
  fun m ρ _ => Cert.KernelOut.Gen.frame m ρ, fun m ρ _ => Cert.KernelOutIdeal.Gen.frame m ρ, quiescent_ReferenceOutIdeal,
  fun m ρ _ => Cert.KernelIn.Gen.frame m ρ, fun m ρ _ => Cert.KernelInIdeal.Gen.frame m ρ, quiescent_ReferenceInIdeal,
  fun m ρ _ => Cert.KernelCombine.Gen.frame m ρ, fun m ρ _ => Cert.KernelCombineIdeal.Gen.frame m ρ, quiescent_ReferenceCombineIdeal,
  have := Cert.Pre_table_in_range.facts; quiescent_KernelExpert, have := Cert.Pre_table_in_range.facts; quiescent_KernelExpertIdeal,
  quiescent_ReferenceExpertIdeal, have := Cert.Pre_table_in_range.facts; quiescent_ReferenceExpertIdeal_pre,
  fun m ρ _ => Cert.KernelInSsd.Gen.frame m ρ, fun m ρ _ => Cert.KernelInSsdIdeal.Gen.frame m ρ, quiescent_ReferenceInSsdIdeal,
  fun m ρ _ => Cert.KernelKv.Gen.frame m ρ, fun m ρ _ => Cert.KernelKvIdeal.Gen.frame m ρ, quiescent_ReferenceKvIdeal,
  fun m ρ _ => Cert.KernelMem.Gen.frame m ρ, fun m ρ _ => Cert.KernelMemIdeal.Gen.frame m ρ,
  have := Cert.Pre_finite_qk.facts; quiescent_KernelMemIdeal_pre, quiescent_ReferenceMemIdeal,
  have := Cert.Pre_finite_qk.facts; quiescent_ReferenceMemIdeal_pre,
  (trivial : preserves_KernelFfn_KernelFfnIdeal), algebraic_KernelFfnIdeal_ReferenceFfnIdeal,
  (trivial : preserves_KernelOut_KernelOutIdeal), algebraic_KernelOutIdeal_ReferenceOutIdeal,
  (trivial : preserves_KernelIn_KernelInIdeal), algebraic_KernelInIdeal_ReferenceInIdeal,
  (trivial : preserves_KernelCombine_KernelCombineIdeal), algebraic_KernelCombineIdeal_ReferenceCombineIdeal,
  (trivial : preserves_KernelExpert_KernelExpertIdeal), have := Cert.Pre_table_in_range.facts; algebraic_KernelExpertIdeal_ReferenceExpertIdeal,
  (trivial : preserves_KernelInSsd_KernelInSsdIdeal), algebraic_KernelInSsdIdeal_ReferenceInSsdIdeal,
  (trivial : preserves_KernelKv_KernelKvIdeal), algebraic_KernelKvIdeal_ReferenceKvIdeal,
  (trivial : preserves_KernelMem_KernelMemIdeal), have := Cert.Pre_finite_qk.facts; algebraic_KernelMemIdeal_ReferenceMemIdeal⟩

end Cert.Proof

end
